-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_states_finite_rows [hPre_binary_states_finite_rows : Cert.Pre_binary_states_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_binary_states_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_binary_states_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_binary_states_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_binary_states_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_states_finite_rows [hPre_binary_states_finite_rows : Cert.Pre_binary_states_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_states_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_binary_states_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_binary_states_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_binary_states_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_binary_states_finite_rows [hKernelIdeal : Cert.KernelIdeal.Facts] [hPre_binary_states_finite_rows : Cert.Pre_binary_states_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_states_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_binary_states_finite_rows [hReferenceIdeal : Cert.ReferenceIdeal.Facts] [hPre_binary_states_finite_rows : Cert.Pre_binary_states_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_states_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_binary_states_finite_rows [hKernelIdeal : Cert.KernelIdeal.Facts] [hReferenceIdeal : Cert.ReferenceIdeal.Facts] [hPre_binary_states_finite_rows : Cert.Pre_binary_states_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_states_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_binary_states_finite_rows : Cert.Pre_binary_states_finite_rows.Facts),
    quiescent_Kernel (hKernel := hKernel)
    ∧ quiescent_KernelIdeal (hKernelIdeal := hKernelIdeal)
    ∧ quiescent_KernelIdeal_pre_binary_states_finite_rows (hKernelIdeal := hKernelIdeal) (hPre_binary_states_finite_rows := hPre_binary_states_finite_rows)
    ∧ quiescent_ReferenceIdeal (hReferenceIdeal := hReferenceIdeal)
    ∧ quiescent_ReferenceIdeal_pre_binary_states_finite_rows (hReferenceIdeal := hReferenceIdeal) (hPre_binary_states_finite_rows := hPre_binary_states_finite_rows)
    ∧ preserves_Kernel_KernelIdeal
    ∧ algebraic_KernelIdeal_ReferenceIdeal_pre_binary_states_finite_rows (hKernelIdeal := hKernelIdeal) (hReferenceIdeal := hReferenceIdeal) (hPre_binary_states_finite_rows := hPre_binary_states_finite_rows)
-- ==== Pre_binary_states_finite_rows.lean ====
abbrev S16x4096x8 : Shape := ⟨3, ![16, 4096, 8]⟩
abbrev S16x4096 : Shape := ⟨2, ![16, 4096]⟩
abbrev S2x2 : Shape := ⟨2, ![2, 2]⟩
abbrev S10x10 : Shape := ⟨2, ![10, 10]⟩
abbrev S10 : Shape := ⟨1, ![10]⟩
abbrev S10x128 : Shape := ⟨2, ![10, 128]⟩
abbrev S128 : Shape := ⟨1, ![128]⟩
abbrev S128x128 : Shape := ⟨2, ![128, 128]⟩
abbrev S128x10 : Shape := ⟨2, ![128, 10]⟩
abbrev S10x16 : Shape := ⟨2, ![10, 16]⟩
abbrev S16 : Shape := ⟨1, ![16]⟩
abbrev S32x16x3 : Shape := ⟨3, ![32, 16, 3]⟩
abbrev S32 : Shape := ⟨1, ![32]⟩
abbrev S_ : Shape := ⟨0, ![]⟩
abbrev S1x2 : Shape := ⟨2, ![1, 2]⟩
abbrev S2x10 : Shape := ⟨2, ![2, 10]⟩
abbrev S2x128 : Shape := ⟨2, ![2, 128]⟩

class Facts : Prop where
  bcast_S_S16x4096 : S_.BroadcastsInDim S16x4096 (![] : Fin 0 → Fin S16x4096.rank)
  slices_S2x2_S1x2_0_0 : S2x2.Slices ![0, 0] S1x2
  bcast_S_S1x2 : S_.BroadcastsInDim S1x2 (![] : Fin 0 → Fin S1x2.rank)
  slices_S10x10_S2x10_8_0 : S10x10.Slices ![8, 0] S2x10
  bcast_S_S2x10 : S_.BroadcastsInDim S2x10 (![] : Fin 0 → Fin S2x10.rank)
  slices_S10x128_S2x128_8_0 : S10x128.Slices ![8, 0] S2x128
  bcast_S_S2x128 : S_.BroadcastsInDim S2x128 (![] : Fin 0 → Fin S2x128.rank)

variable [Facts]

def fn {F : FTy → Type} [FloatOps F] (main_arg0 : FVec F S16x4096x8 .f32) (main_arg1 : IVec S16x4096 32) (main_arg2 : FVec F S2x2 .f32) (main_arg3 : FVec F S10x10 .f32) (main_arg4 : FVec F S10 .f32) (main_arg5 : FVec F S10x128 .f32) (main_arg6 : FVec F S10x128 .f32) (main_arg7 : FVec F S128 .f32) (main_arg8 : FVec F S128x128 .f32) (main_arg9 : FVec F S128 .f32) (main_arg10 : FVec F S128x10 .f32) (main_arg11 : FVec F S128x10 .f32) (main_arg12 : FVec F S10 .f32) (main_arg13 : FVec F S10x16 .f32) (main_arg14 : FVec F S16 .f32) (main_arg15 : FVec F S32x16x3 .f32) (main_arg16 : FVec F S32 .f32) : IVec S16x4096 1 × IVec S1x2 1 × IVec S2x10 1 × IVec S2x128 1 :=
  let main_c : IVec S_ 32 := constantI S_ 32 0#32
  let main_v0 : IVec S16x4096 32 := broadcastInDim S16x4096 ![] bcast_S_S16x4096 main_c
  let main_v1 : IVec S16x4096 1 := cmpi .sge main_arg1 main_v0
  let main_c_0 : IVec S_ 32 := constantI S_ 32 2#32
  let main_v2 : IVec S16x4096 32 := broadcastInDim S16x4096 ![] bcast_S_S16x4096 main_c_0
  let main_v3 : IVec S16x4096 1 := cmpi .slt main_arg1 main_v2
  let main_v4 : IVec S16x4096 1 := andi main_v1 main_v3
  let main_v5 : FVec F S1x2 .f32 := (extractStridedSlice S1x2 ![0, 0] · slices_S2x2_S1x2_0_0) main_arg2
  let main_v6 : FVec F S1x2 .f32 := Host.absf main_v5
  let main_cst : FVec F S_ .f32 := constant S_ .f32 0x7F800000#32
  let main_v7 : FVec F S1x2 .f32 := broadcastInDim S1x2 ![] bcast_S_S1x2 main_cst
  let main_v8 : IVec S1x2 1 := cmpf .olt main_v6 main_v7
  let main_v9 : FVec F S2x10 .f32 := (extractStridedSlice S2x10 ![8, 0] · slices_S10x10_S2x10_8_0) main_arg3
  let main_v10 : FVec F S2x10 .f32 := Host.absf main_v9
  let main_cst_1 : FVec F S_ .f32 := constant S_ .f32 0x7F800000#32
  let main_v11 : FVec F S2x10 .f32 := broadcastInDim S2x10 ![] bcast_S_S2x10 main_cst_1
  let main_v12 : IVec S2x10 1 := cmpf .olt main_v10 main_v11
  let main_v13 : FVec F S2x128 .f32 := (extractStridedSlice S2x128 ![8, 0] · slices_S10x128_S2x128_8_0) main_arg5
  let main_v14 : FVec F S2x128 .f32 := Host.absf main_v13
  let main_cst_2 : FVec F S_ .f32 := constant S_ .f32 0x7F800000#32
  let main_v15 : FVec F S2x128 .f32 := broadcastInDim S2x128 ![] bcast_S_S2x128 main_cst_2
  let main_v16 : IVec S2x128 1 := cmpf .olt main_v14 main_v15
  (main_v4, main_v8, main_v12, main_v16)
-- ==== Kernel.lean ====
abbrev S16x4096x8 : Shape := ⟨3, ![16, 4096, 8]⟩
abbrev S16x4096 : Shape := ⟨2, ![16, 4096]⟩
abbrev S2x2 : Shape := ⟨2, ![2, 2]⟩
abbrev S10x10 : Shape := ⟨2, ![10, 10]⟩
abbrev S10 : Shape := ⟨1, ![10]⟩
abbrev S10x128 : Shape := ⟨2, ![10, 128]⟩
abbrev S128 : Shape := ⟨1, ![128]⟩
abbrev S128x128 : Shape := ⟨2, ![128, 128]⟩
abbrev S128x10 : Shape := ⟨2, ![128, 10]⟩
abbrev S10x16 : Shape := ⟨2, ![10, 16]⟩
abbrev S16 : Shape := ⟨1, ![16]⟩
abbrev S32x16x3 : Shape := ⟨3, ![32, 16, 3]⟩
abbrev S32 : Shape := ⟨1, ![32]⟩
abbrev S16x8x4096 : Shape := ⟨3, ![16, 8, 4096]⟩
abbrev S16x1x4096 : Shape := ⟨3, ![16, 1, 4096]⟩
abbrev S1x2 : Shape := ⟨2, ![1, 2]⟩
abbrev S2 : Shape := ⟨1, ![2]⟩
abbrev S1 : Shape := ⟨1, ![1]⟩
abbrev S_ : Shape := ⟨0, ![]⟩
abbrev S1x10 : Shape := ⟨2, ![1, 10]⟩
abbrev S1x1 : Shape := ⟨2, ![1, 1]⟩
abbrev S8x10 : Shape := ⟨2, ![8, 10]⟩
abbrev S1x128 : Shape := ⟨2, ![1, 128]⟩
abbrev S8x128 : Shape := ⟨2, ![8, 128]⟩
abbrev S10x154 : Shape := ⟨2, ![10, 154]⟩
abbrev S256x10 : Shape := ⟨2, ![256, 10]⟩
abbrev S3x16x32 : Shape := ⟨3, ![3, 16, 32]⟩
abbrev S48x32 : Shape := ⟨2, ![48, 32]⟩
abbrev S186 : Shape := ⟨1, ![186]⟩
abbrev S186x1 : Shape := ⟨2, ![186, 1]⟩
abbrev S16x32x4094 : Shape := ⟨3, ![16, 32, 4094]⟩
abbrev S8x8x4096 : Shape := ⟨3, ![8, 8, 4096]⟩
abbrev S8x1x4096 : Shape := ⟨3, ![8, 1, 4096]⟩
abbrev S8x32x4094 : Shape := ⟨3, ![8, 32, 4094]⟩
abbrev S20x128 : Shape := ⟨2, ![20, 128]⟩
abbrev S128x1 : Shape := ⟨2, ![128, 1]⟩
abbrev S10x1 : Shape := ⟨2, ![10, 1]⟩
abbrev S16x1 : Shape := ⟨2, ![16, 1]⟩
abbrev S32x1 : Shape := ⟨2, ![32, 1]⟩
abbrev S1x8x4096 : Shape := ⟨3, ![1, 8, 4096]⟩
abbrev S8x4096 : Shape := ⟨2, ![8, 4096]⟩
abbrev S1x1x4096 : Shape := ⟨3, ![1, 1, 4096]⟩
abbrev S1x4096 : Shape := ⟨2, ![1, 4096]⟩
abbrev S10x4096 : Shape := ⟨2, ![10, 4096]⟩
abbrev S10x4095 : Shape := ⟨2, ![10, 4095]⟩
abbrev S20x4096 : Shape := ⟨2, ![20, 4096]⟩
abbrev S128x4096 : Shape := ⟨2, ![128, 4096]⟩
abbrev S128x4095 : Shape := ⟨2, ![128, 4095]⟩
abbrev S256x4096 : Shape := ⟨2, ![256, 4096]⟩
abbrev S16x2 : Shape := ⟨2, ![16, 2]⟩
abbrev S16x4095 : Shape := ⟨2, ![16, 4095]⟩
abbrev S16x4094 : Shape := ⟨2, ![16, 4094]⟩
abbrev S48x4096 : Shape := ⟨2, ![48, 4096]⟩
abbrev S32x4096 : Shape := ⟨2, ![32, 4096]⟩
abbrev S32x4094 : Shape := ⟨2, ![32, 4094]⟩
abbrev S1x32x4094 : Shape := ⟨3, ![1, 32, 4094]⟩

abbrev nBuf : Space → Nat
  | .hbm => 101
  | .vmem => 12
  | .smem => 0
  | _ => 0

abbrev bufTy : (tb : Table) → Fin (tcTables nBuf tb) → BufTy
  | .hbm, ⟨0, _⟩ => ⟨S16x4096x8, .f32⟩
  | .hbm, ⟨1, _⟩ => ⟨S16x4096, .i32⟩
  | .hbm, ⟨2, _⟩ => ⟨S2x2, .f32⟩
  | .hbm, ⟨3, _⟩ => ⟨S10x10, .f32⟩
  | .hbm, ⟨4, _⟩ => ⟨S10, .f32⟩
  | .hbm, ⟨5, _⟩ => ⟨S10x128, .f32⟩
  | .hbm, ⟨6, _⟩ => ⟨S10x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x10, .f32⟩
  | .hbm, ⟨11, _⟩ => ⟨S128x10, .f32⟩
  | .hbm, ⟨12, _⟩ => ⟨S10, .f32⟩
  | .hbm, ⟨13, _⟩ => ⟨S10x16, .f32⟩
  | .hbm, ⟨14, _⟩ => ⟨S16, .f32⟩
  | .hbm, ⟨15, _⟩ => ⟨S32x16x3, .f32⟩
  | .hbm, ⟨16, _⟩ => ⟨S32, .f32⟩
  | .hbm, ⟨17, _⟩ => ⟨S16x8x4096, .f32⟩
  | .hbm, ⟨18, _⟩ => ⟨S16x8x4096, .bf16⟩
  | .hbm, ⟨19, _⟩ => ⟨S16x1x4096, .i32⟩
  | .hbm, ⟨20, _⟩ => ⟨S1x2, .f32⟩
  | .hbm, ⟨21, _⟩ => ⟨S2, .f32⟩
  | .hbm, ⟨22, _⟩ => ⟨S1x2, .f32⟩
  | .hbm, ⟨23, _⟩ => ⟨S2, .f32⟩
  | .hbm, ⟨24, _⟩ => ⟨S2, .f32⟩
  | .hbm, ⟨25, _⟩ => ⟨S1, .f32⟩
  | .hbm, ⟨26, _⟩ => ⟨S_, .f32⟩
  | .hbm, ⟨27, _⟩ => ⟨S1x10, .f32⟩
  | .hbm, ⟨28, _⟩ => ⟨S10, .f32⟩
  | .hbm, ⟨29, _⟩ => ⟨S10, .f32⟩
  | .hbm, ⟨30, _⟩ => ⟨S10, .f32⟩
  | .hbm, ⟨31, _⟩ => ⟨S1, .f32⟩
  | .hbm, ⟨32, _⟩ => ⟨S_, .f32⟩
  | .hbm, ⟨33, _⟩ => ⟨S1x10, .f32⟩
  | .hbm, ⟨34, _⟩ => ⟨S10, .f32⟩
  | .hbm, ⟨35, _⟩ => ⟨S10, .f32⟩
  | .hbm, ⟨36, _⟩ => ⟨S10, .f32⟩
  | .hbm, ⟨37, _⟩ => ⟨S10, .f32⟩
  | .hbm, ⟨38, _⟩ => ⟨S1x1, .f32⟩
  | .hbm, ⟨39, _⟩ => ⟨S_, .f32⟩
  | .hbm, ⟨40, _⟩ => ⟨S1x10, .f32⟩
  | .hbm, ⟨41, _⟩ => ⟨S10, .f32⟩
  | .hbm, ⟨42, _⟩ => ⟨S10, .f32⟩
  | .hbm, ⟨43, _⟩ => ⟨S10, .f32⟩
  | .hbm, ⟨44, _⟩ => ⟨S1x1, .f32⟩
  | .hbm, ⟨45, _⟩ => ⟨S_, .f32⟩
  | .hbm, ⟨46, _⟩ => ⟨S1x10, .f32⟩
  | .hbm, ⟨47, _⟩ => ⟨S10, .f32⟩
  | .hbm, ⟨48, _⟩ => ⟨S10, .f32⟩
  | .hbm, ⟨49, _⟩ => ⟨S10, .f32⟩
  | .hbm, ⟨50, _⟩ => ⟨S10, .f32⟩
  | .hbm, ⟨51, _⟩ => ⟨S10, .f32⟩
  | .hbm, ⟨52, _⟩ => ⟨S8x10, .f32⟩
  | .hbm, ⟨53, _⟩ => ⟨S1x10, .f32⟩
  | .hbm, ⟨54, _⟩ => ⟨S1x10, .f32⟩
  | .hbm, ⟨55, _⟩ => ⟨S10x10, .f32⟩
  | .hbm, ⟨56, _⟩ => ⟨S1x2, .f32⟩
  | .hbm, ⟨57, _⟩ => ⟨S2, .f32⟩
  | .hbm, ⟨58, _⟩ => ⟨S1x2, .f32⟩
  | .hbm, ⟨59, _⟩ => ⟨S2, .f32⟩
  | .hbm, ⟨60, _⟩ => ⟨S2, .f32⟩
  | .hbm, ⟨61, _⟩ => ⟨S1, .f32⟩
  | .hbm, ⟨62, _⟩ => ⟨S_, .f32⟩
  | .hbm, ⟨63, _⟩ => ⟨S1x128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1, .f32⟩
  | .hbm, ⟨68, _⟩ => ⟨S_, .f32⟩
  | .hbm, ⟨69, _⟩ => ⟨S1x128, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x1, .f32⟩
  | .hbm, ⟨75, _⟩ => ⟨S_, .f32⟩
  | .hbm, ⟨76, _⟩ => ⟨S1x128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x1, .f32⟩
  | .hbm, ⟨81, _⟩ => ⟨S_, .f32⟩
  | .hbm, ⟨82, _⟩ => ⟨S1x128, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S8x128, .f32⟩
  | .hbm, ⟨89, _⟩ => ⟨S1x128, .f32⟩
  | .hbm, ⟨90, _⟩ => ⟨S1x128, .f32⟩
  | .hbm, ⟨91, _⟩ => ⟨S10x128, .f32⟩
  | .hbm, ⟨92, _⟩ => ⟨S10x154, .f32⟩
  | .hbm, ⟨93, _⟩ => ⟨S10x154, .bf16⟩
  | .hbm, ⟨94, _⟩ => ⟨S256x10, .f32⟩
  | .hbm, ⟨95, _⟩ => ⟨S3x16x32, .f32⟩
  | .hbm, ⟨96, _⟩ => ⟨S48x32, .f32⟩
  | .hbm, ⟨97, _⟩ => ⟨S48x32, .bf16⟩
  | .hbm, ⟨98, _⟩ => ⟨S186, .f32⟩
  | .hbm, ⟨99, _⟩ => ⟨S186x1, .f32⟩
  | .hbm, ⟨100, _⟩ => ⟨S16x32x4094, .f32⟩
  | .local _ .vmem, ⟨0, _⟩ => ⟨S8x8x4096, .bf16⟩
  | .local _ .vmem, ⟨1, _⟩ => ⟨S8x8x4096, .bf16⟩
  | .local _ .vmem, ⟨2, _⟩ => ⟨S8x1x4096, .i32⟩
  | .local _ .vmem, ⟨3, _⟩ => ⟨S8x1x4096, .i32⟩
  | .local _ .vmem, ⟨4, _⟩ => ⟨S10x154, .bf16⟩
  | .local _ .vmem, ⟨5, _⟩ => ⟨S10x128, .f32⟩
  | .local _ .vmem, ⟨6, _⟩ => ⟨S128x128, .f32⟩
  | .local _ .vmem, ⟨7, _⟩ => ⟨S256x10, .f32⟩
  | .local _ .vmem, ⟨8, _⟩ => ⟨S48x32, .bf16⟩
  | .local _ .vmem, ⟨9, _⟩ => ⟨S186x1, .f32⟩
  | .local _ .vmem, ⟨10, _⟩ => ⟨S8x32x4094, .f32⟩
  | .local _ .vmem, ⟨11, _⟩ => ⟨S8x32x4094, .f32⟩
  | _, _ => ⟨S16x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x154 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S186x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x32x4094 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16x4096x8 : Shape := ⟨3, ![16, 4096, 8]⟩
abbrev S16x4096 : Shape := ⟨2, ![16, 4096]⟩
abbrev S2x2 : Shape := ⟨2, ![2, 2]⟩
abbrev S10x10 : Shape := ⟨2, ![10, 10]⟩
abbrev S10 : Shape := ⟨1, ![10]⟩
abbrev S10x128 : Shape := ⟨2, ![10, 128]⟩
abbrev S128 : Shape := ⟨1, ![128]⟩
abbrev S128x128 : Shape := ⟨2, ![128, 128]⟩
abbrev S128x10 : Shape := ⟨2, ![128, 10]⟩
abbrev S10x16 : Shape := ⟨2, ![10, 16]⟩
abbrev S16 : Shape := ⟨1, ![16]⟩
abbrev S32x16x3 : Shape := ⟨3, ![32, 16, 3]⟩
abbrev S32 : Shape := ⟨1, ![32]⟩
abbrev S_ : Shape := ⟨0, ![]⟩
abbrev S16x4096x1 : Shape := ⟨3, ![16, 4096, 1]⟩
abbrev S1 : Shape := ⟨1, ![1]⟩
abbrev S1x1x1 : Shape := ⟨3, ![1, 1, 1]⟩
abbrev S16x4096x2 : Shape := ⟨3, ![16, 4096, 2]⟩
abbrev S16x4096x10 : Shape := ⟨3, ![16, 4096, 10]⟩
abbrev S1x1x10 : Shape := ⟨3, ![1, 1, 10]⟩
abbrev S16x1x10 : Shape := ⟨3, ![16, 1, 10]⟩
abbrev S16x4095x10 : Shape := ⟨3, ![16, 4095, 10]⟩
abbrev S16x4096x128 : Shape := ⟨3, ![16, 4096, 128]⟩
abbrev S1x1x128 : Shape := ⟨3, ![1, 1, 128]⟩
abbrev S16x1x128 : Shape := ⟨3, ![16, 1, 128]⟩
abbrev S16x4095x128 : Shape := ⟨3, ![16, 4095, 128]⟩
abbrev S16x4096x16 : Shape := ⟨3, ![16, 4096, 16]⟩
abbrev S1x1x16 : Shape := ⟨3, ![1, 1, 16]⟩
abbrev S16x4094x16 : Shape := ⟨3, ![16, 4094, 16]⟩
abbrev S32x16x1 : Shape := ⟨3, ![32, 16, 1]⟩
abbrev S32x16 : Shape := ⟨2, ![32, 16]⟩
abbrev S32x16x4094 : Shape := ⟨3, ![32, 16, 4094]⟩
abbrev S16x32x4094 : Shape := ⟨3, ![16, 32, 4094]⟩
abbrev S1x32x1 : Shape := ⟨3, ![1, 32, 1]⟩

abbrev nBuf : Space → Nat
  | .hbm => 120
  | .vmem => 0
  | .smem => 0
  | _ => 0

abbrev bufTy : (tb : Table) → Fin (tcTables nBuf tb) → BufTy
  | .hbm, ⟨0, _⟩ => ⟨S16x4096x8, .f32⟩
  | .hbm, ⟨1, _⟩ => ⟨S16x4096, .i32⟩
  | .hbm, ⟨2, _⟩ => ⟨S2x2, .f32⟩
  | .hbm, ⟨3, _⟩ => ⟨S10x10, .f32⟩
  | .hbm, ⟨4, _⟩ => ⟨S10, .f32⟩
  | .hbm, ⟨5, _⟩ => ⟨S10x128, .f32⟩
  | .hbm, ⟨6, _⟩ => ⟨S10x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x10, .f32⟩
  | .hbm, ⟨11, _⟩ => ⟨S128x10, .f32⟩
  | .hbm, ⟨12, _⟩ => ⟨S10, .f32⟩
  | .hbm, ⟨13, _⟩ => ⟨S10x16, .f32⟩
  | .hbm, ⟨14, _⟩ => ⟨S16, .f32⟩
  | .hbm, ⟨15, _⟩ => ⟨S32x16x3, .f32⟩
  | .hbm, ⟨16, _⟩ => ⟨S32, .f32⟩
  | .hbm, ⟨17, _⟩ => ⟨S_, .i32⟩
  | .hbm, ⟨18, _⟩ => ⟨S16x4096, .i32⟩
  | .hbm, ⟨19, _⟩ => ⟨S16x4096, .i1⟩
  | .hbm, ⟨20, _⟩ => ⟨S_, .i32⟩
  | .hbm, ⟨21, _⟩ => ⟨S16x4096, .i32⟩
  | .hbm, ⟨22, _⟩ => ⟨S16x4096, .i32⟩
  | .hbm, ⟨23, _⟩ => ⟨S16x4096, .i32⟩
  | .hbm, ⟨24, _⟩ => ⟨S16x4096x1, .i32⟩
  | .hbm, ⟨25, _⟩ => ⟨S1, .i32⟩
  | .hbm, ⟨26, _⟩ => ⟨S_, .i32⟩
  | .hbm, ⟨27, _⟩ => ⟨S16x4096x1, .i32⟩
  | .hbm, ⟨28, _⟩ => ⟨S16x4096x1, .i1⟩
  | .hbm, ⟨29, _⟩ => ⟨S1x1x1, .i32⟩
  | .hbm, ⟨30, _⟩ => ⟨S16x4096x1, .i32⟩
  | .hbm, ⟨31, _⟩ => ⟨S16x4096x1, .i1⟩
  | .hbm, ⟨32, _⟩ => ⟨S16x4096x1, .i1⟩
  | .hbm, ⟨33, _⟩ => ⟨S_, .i1⟩
  | .hbm, ⟨34, _⟩ => ⟨S16x4096, .i1⟩
  | .hbm, ⟨35, _⟩ => ⟨S16x4096x2, .f32⟩
  | .hbm, ⟨36, _⟩ => ⟨S16x4096x2, .i1⟩
  | .hbm, ⟨37, _⟩ => ⟨S_, .f32⟩
  | .hbm, ⟨38, _⟩ => ⟨S16x4096x2, .f32⟩
  | .hbm, ⟨39, _⟩ => ⟨S16x4096x2, .f32⟩
  | .hbm, ⟨40, _⟩ => ⟨S16x4096x10, .f32⟩
  | .hbm, ⟨41, _⟩ => ⟨S16x4096x10, .f32⟩
  | .hbm, ⟨42, _⟩ => ⟨S1x1x10, .f32⟩
  | .hbm, ⟨43, _⟩ => ⟨S16x4096x10, .f32⟩
  | .hbm, ⟨44, _⟩ => ⟨S16x4096x10, .f32⟩
  | .hbm, ⟨45, _⟩ => ⟨S_, .f32⟩
  | .hbm, ⟨46, _⟩ => ⟨S16x4096x10, .f32⟩
  | .hbm, ⟨47, _⟩ => ⟨S16x4096x10, .f32⟩
  | .hbm, ⟨48, _⟩ => ⟨S16x1x10, .f32⟩
  | .hbm, ⟨49, _⟩ => ⟨S_, .f32⟩
  | .hbm, ⟨50, _⟩ => ⟨S16x1x10, .f32⟩
  | .hbm, ⟨51, _⟩ => ⟨S16x4095x10, .f32⟩
  | .hbm, ⟨52, _⟩ => ⟨S16x4096x10, .f32⟩
  | .hbm, ⟨53, _⟩ => ⟨S16x4096x128, .f32⟩
  | .hbm, ⟨54, _⟩ => ⟨S16x4096x128, .f32⟩
  | .hbm, ⟨55, _⟩ => ⟨S16x4096x128, .f32⟩
  | .hbm, ⟨56, _⟩ => ⟨S1x1x128, .f32⟩
  | .hbm, ⟨57, _⟩ => ⟨S16x4096x128, .f32⟩
  | .hbm, ⟨58, _⟩ => ⟨S16x4096x128, .f32⟩
  | .hbm, ⟨59, _⟩ => ⟨S16x4096x128, .f32⟩
  | .hbm, ⟨60, _⟩ => ⟨S1x1x128, .f32⟩
  | .hbm, ⟨61, _⟩ => ⟨S16x4096x128, .f32⟩
  | .hbm, ⟨62, _⟩ => ⟨S16x4096x128, .f32⟩
  | .hbm, ⟨63, _⟩ => ⟨S_, .f32⟩
  | .hbm, ⟨64, _⟩ => ⟨S16x4096x128, .f32⟩
  | .hbm, ⟨65, _⟩ => ⟨S16x4096x128, .f32⟩
  | .hbm, ⟨66, _⟩ => ⟨S16x1x128, .f32⟩
  | .hbm, ⟨67, _⟩ => ⟨S_, .f32⟩
  | .hbm, ⟨68, _⟩ => ⟨S16x1x128, .f32⟩
  | .hbm, ⟨69, _⟩ => ⟨S16x4095x128, .f32⟩
  | .hbm, ⟨70, _⟩ => ⟨S16x4096x128, .f32⟩
  | .hbm, ⟨71, _⟩ => ⟨S16x4096x10, .f32⟩
  | .hbm, ⟨72, _⟩ => ⟨S16x4096x10, .f32⟩
  | .hbm, ⟨73, _⟩ => ⟨S16x4096x10, .f32⟩
  | .hbm, ⟨74, _⟩ => ⟨S1x1x10, .f32⟩
  | .hbm, ⟨75, _⟩ => ⟨S16x4096x10, .f32⟩
  | .hbm, ⟨76, _⟩ => ⟨S16x4096x10, .f32⟩
  | .hbm, ⟨77, _⟩ => ⟨S16x4096x16, .f32⟩
  | .hbm, ⟨78, _⟩ => ⟨S1x1x16, .f32⟩
  | .hbm, ⟨79, _⟩ => ⟨S16x4096x16, .f32⟩
  | .hbm, ⟨80, _⟩ => ⟨S16x4096x16, .f32⟩
  | .hbm, ⟨81, _⟩ => ⟨S16x4096x16, .f32⟩
  | .hbm, ⟨82, _⟩ => ⟨S16x4094x16, .f32⟩
  | .hbm, ⟨83, _⟩ => ⟨S32x16x1, .f32⟩
  | .hbm, ⟨84, _⟩ => ⟨S32x16, .f32⟩
  | .hbm, ⟨85, _⟩ => ⟨S32x16x4094, .f32⟩
  | .hbm, ⟨86, _⟩ => ⟨S16x32x4094, .f32⟩
  | .hbm, ⟨87, _⟩ => ⟨S_, .f32⟩
  | .hbm, ⟨88, _⟩ => ⟨S16x32x4094, .f32⟩
  | .hbm, ⟨89, _⟩ => ⟨S16x32x4094, .f32⟩
  | .hbm, ⟨90, _⟩ => ⟨S16x4094x16, .f32⟩
  | .hbm, ⟨91, _⟩ => ⟨S32x16x1, .f32⟩
  | .hbm, ⟨92, _⟩ => ⟨S32x16, .f32⟩
  | .hbm, ⟨93, _⟩ => ⟨S32x16x4094, .f32⟩
  | .hbm, ⟨94, _⟩ => ⟨S16x32x4094, .f32⟩
  | .hbm, ⟨95, _⟩ => ⟨S16x32x4094, .f32⟩
  | .hbm, ⟨96, _⟩ => ⟨S16x4094x16, .f32⟩
  | .hbm, ⟨97, _⟩ => ⟨S32x16x1, .f32⟩
  | .hbm, ⟨98, _⟩ => ⟨S32x16, .f32⟩
  | .hbm, ⟨99, _⟩ => ⟨S32x16x4094, .f32⟩
  | .hbm, ⟨100, _⟩ => ⟨S16x32x4094, .f32⟩
  | .hbm, ⟨101, _⟩ => ⟨S16x32x4094, .f32⟩
  | .hbm, ⟨102, _⟩ => ⟨S1x32x1, .f32⟩
  | .hbm, ⟨103, _⟩ => ⟨S16x32x4094, .f32⟩
  | .hbm, ⟨104, _⟩ => ⟨S16x32x4094, .f32⟩
  | .hbm, ⟨105, _⟩ => ⟨S_, .f32⟩
  | .hbm, ⟨106, _⟩ => ⟨S16x32x4094, .f32⟩
  | .hbm, ⟨107, _⟩ => ⟨S16x32x4094, .i1⟩
  | .hbm, ⟨108, _⟩ => ⟨S_, .f32⟩
  | .hbm, ⟨109, _⟩ => ⟨S16x32x4094, .f32⟩
  | .hbm, ⟨110, _⟩ => ⟨S16x32x4094, .i1⟩
  | .hbm, ⟨111, _⟩ => ⟨S_, .f32⟩
  | .hbm, ⟨112, _⟩ => ⟨S_, .f32⟩
  | .hbm, ⟨113, _⟩ => ⟨S16x32x4094, .f32⟩
  | .hbm, ⟨114, _⟩ => ⟨S16x32x4094, .f32⟩
  | .hbm, ⟨115, _⟩ => ⟨S16x32x4094, .f32⟩
  | .hbm, ⟨116, _⟩ => ⟨S_, .f32⟩
  | .hbm, ⟨117, _⟩ => ⟨S16x32x4094, .f32⟩
  | .hbm, ⟨118, _⟩ => ⟨S16x32x4094, .f32⟩
  | .hbm, ⟨119, _⟩ => ⟨S16x32x4094, .f32⟩
  | _, _ => ⟨S16x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_call1_cst : Ref sig .tc := ⟨.hbm, 45, rfl⟩
abbrev main_call1_v0 : Ref sig .tc := ⟨.hbm, 46, rfl⟩
abbrev main_v6 : Ref sig .tc := ⟨.hbm, 47, rfl⟩
abbrev main_v7 : Ref sig .tc := ⟨.hbm, 48, rfl⟩
abbrev main_cst : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_call2_cst : Ref sig .tc := ⟨.hbm, 63, rfl⟩
abbrev main_call2_v0 : Ref sig .tc := ⟨.hbm, 64, rfl⟩
abbrev main_v21 : Ref sig .tc := ⟨.hbm, 65, rfl⟩
abbrev main_v22 : Ref sig .tc := ⟨.hbm, 66, rfl⟩
abbrev main_cst_0 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_1 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_call3_cst : Ref sig .tc := ⟨.hbm, 105, rfl⟩
abbrev main_call3_v0 : Ref sig .tc := ⟨.hbm, 106, rfl⟩
abbrev main_call3_v1 : Ref sig .tc := ⟨.hbm, 107, rfl⟩
abbrev main_call3_cst_0 : Ref sig .tc := ⟨.hbm, 108, rfl⟩
abbrev main_call3_v2 : Ref sig .tc := ⟨.hbm, 109, rfl⟩
abbrev main_call3_v3 : Ref sig .tc := ⟨.hbm, 110, rfl⟩
abbrev main_call3_cst_1 : Ref sig .tc := ⟨.hbm, 111, rfl⟩
abbrev main_call3_call0_v0 : Ref sig .tc := ⟨.hbm, 112, rfl⟩
abbrev main_call3_call0_v1 : Ref sig .tc := ⟨.hbm, 113, rfl⟩
abbrev main_call3_v4 : Ref sig .tc := ⟨.hbm, 114, rfl⟩
abbrev main_call3_v5 : Ref sig .tc := ⟨.hbm, 115, rfl⟩
abbrev main_call3_cst_2 : Ref sig .tc := ⟨.hbm, 116, rfl⟩
abbrev main_call3_v6 : Ref sig .tc := ⟨.hbm, 117, rfl⟩
abbrev main_call3_v7 : Ref sig .tc := ⟨.hbm, 118, rfl⟩
abbrev main_v59 : Ref sig .tc := ⟨.hbm, 119, rfl⟩

abbrev nD : Nat := 1
abbrev τ : Topo := Topo.v7x

variable {F : FTy → Type} [FloatOps F]
-- ==== Proof.Take.lean ====
/-
  The embedding table's rows taken by the reference. With every state 0 or 1 the index is inside the table, so the row taken
  is the state's and the fill value for an index outside is never chosen.
-/
module

public import proofs.«01_k».proof.Proof.Gen.ReferenceIdeal.Read
public import Idealize.ShloMosaic.Lib.ReduceAll

@[expose] public section

noncomputable section

namespace Cert.ReferenceIdeal.Net

open Cert.ReferenceIdeal Cert.ReferenceIdeal.Gen Cert.ReferenceIdeal.Read Idealize.ShloMosaic Idealize.ShloMosaic.ValueIdx

/-- The dimension numbers of taking whole rows of a table, one row per pair of the index array. -/
abbrev rowDims (N C R L : Nat)
    (wf : GatherDims.WF ⟨2, ![N, C]⟩ ⟨3, ![R, L, 1]⟩ ⟨3, ![R, L, C]⟩ [2] [0] [] [0] [] 2 ![1, C]) :
    GatherDims ⟨2, ![N, C]⟩ ⟨3, ![R, L, 1]⟩ ⟨3, ![R, L, C]⟩ where
  offsetDims := [2]
  collapsedSliceDims := [0]
  operandBatchingDims := []
  startIndicesBatchingDims := []
  startIndexMap := [0]
  indexVectorDim := 2
  sliceSizes := ![1, C]
  wf := wf

/-- Rows taken from a table, read at `(b, l, k)`: column `k` of the row whose number is the index at `(b, l)`, read signed and
    brought into the table's range. -/
theorem rows_taken {α : Type} {N C R L w : Nat} (hN : 0 < N)
    (wf : GatherDims.WF ⟨2, ![N, C]⟩ ⟨3, ![R, L, 1]⟩ ⟨3, ![R, L, C]⟩ [2] [0] [] [0] [] 2 ![1, C])
    (x : (⟨2, ![N, C]⟩ : Shape).Idx → α) (idx : IVec ⟨3, ![R, L, 1]⟩ w) (b : Fin R) (l : Fin L) (k : Fin C) :
    Host.gather (rowDims N C R L wf) x idx (ix3 b l k) = x (ix2 ⟨min (idx (ix3 b l 0)).toInt.toNat (N - 1), by omega⟩ k) := by
  unfold Host.gather
  congr 1
  funext a
  refine Fin.ext ?_
  show (rowDims N C R L wf).start (ix3 b l k) idx a + (rowDims N C R L wf).batchCoord (ix3 b l k) a
    + (rowDims N C R L wf).offCoord (ix3 b l k) a = _
  rw [GatherDims.batchCoord_eq_zero _ _ _ List.not_mem_nil, Nat.add_zero]
  match a with
  | ⟨0, h⟩ =>
    rw [GatherDims.offCoord_eq_zero _ _ _ (fun h => ((GatherDims.mem_sKept _ _).mp h).1 (List.mem_singleton.mpr rfl)), Nat.add_zero]
    unfold GatherDims.start
    rw [dif_pos (show (⟨0, h⟩ : Fin 2) ∈ (rowDims N C R L wf).startIndexMap from List.mem_singleton.mpr rfl)]
    have hsi : (rowDims N C R L wf).siIdx (ix3 b l k) ⟨List.idxOf (⟨0, h⟩ : Fin 2) (rowDims N C R L wf).startIndexMap,
        List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  | ⟨1, _⟩ =>
    have h0 : (rowDims N C R L wf).start (ix3 b l k) idx 1 = 0 := by
      unfold GatherDims.start
      exact dif_neg (show ¬(1 : Fin 2) ∈ [(0 : Fin 2)] by decide)
    exact (congrArg (· + _) h0).trans (Nat.zero_add _)

/-- Every state is the word of its number in `s`. -/
def Codes (x1 : IVec S16x4096 32) (s : Fin 16 → Fin 4096 → Fin 2) : Prop := ∀ b l, x1 (ix2 b l) = BitVec.ofNat 32 (s b l).val

variable {x1 : IVec S16x4096 32} {s : Fin 16 → Fin 4096 → Fin 2}

/-- The index the table is read at is the state: a state of 0 or 1 is not negative, so it is not wrapped. -/
theorem index_at (hs : Codes x1 s) (b : Fin 16) (l : Fin 4096) (o : Fin 1) :
    val_main_call0_v5 (F := Ideal) x1 (ix3 b l o) = BitVec.ofNat 32 (s b l).val := by
  have key : ∀ a : Fin 2, Scalar.select (IntOp.cmpi .slt (BitVec.ofNat 32 a.val) 0#32)
      (IntOp.addi (BitVec.ofNat 32 a.val) 2#32) (BitVec.ofNat 32 a.val) = BitVec.ofNat 32 a.val := by decide
  have h5 : idx_main_call0_v5 (ix3 b l o) = ix2 b l := eq_ix2 _
  rw [val_main_call0_v5_apply, h5, val_main_call0_v4_apply, val_main_call0_v1_apply, val_main_call0_v3_apply,
    val_main_call0_v0_apply, val_main_call0_v2_apply, val_main_call0_c_apply, val_main_call0_c_0_apply, hs b l]
  exact key _

/-- The check that the index is inside the table passes everywhere. -/
theorem inside (hs : Codes x1 s) (j : S16x4096.Idx) : val_main_call0_v12 (F := Ideal) x1 j = 1#1 := by
  have key : ∀ a : Fin 2, IntOp.andi (IntOp.cmpi .sge (BitVec.ofNat 32 a.val) 0#32)
      (IntOp.cmpi .sle (BitVec.ofNat 32 a.val) 1#32) = 1#1 := by decide
  unfold val_main_call0_v12
  refine Host.reduce_andi_one _ _ _ _ j rfl fun i => ?_
  have h5 : val_main_call0_v5 (F := Ideal) x1 i = BitVec.ofNat 32 (s (i 0) (i 1)).val :=
    (congrArg _ (eq_ix3 i)).trans (index_at hs _ _ _)
  rw [val_main_call0_v11_apply, val_main_call0_v7_apply, val_main_call0_v10_apply, val_main_call0_v6_apply,
    val_main_call0_v9_apply, val_main_call0_v8_apply, val_main_call0_c_1_apply, val_main_call0_c_2_apply, h5]
  exact key _

/-- The row taken at `(b, l)` is the table's row of the state there. -/
theorem taken_at (hs : Codes x1 s) (x2 : FVec Ideal S2x2 .f32) (b : Fin 16) (l : Fin 4096) (k : Fin 2) :
    val_main_v0 (F := Ideal) x1 x2 (ix3 b l k) = x2 (ix2 (s b l) k) := by
  have key : ∀ a : Fin 2, min (BitVec.ofNat 32 a.val).toInt.toNat (2 - 1) = a.val := by decide
  rw [val_main_v0_apply, val_main_call0_v14_apply, inside hs]
  refine (if_pos rfl).trans ((rows_taken (by decide) gather_S2x2_S16x4096x1_S16x4096x2_2_0_n_n_0_2_12_wf x2
    (val_main_call0_v5 (F := Ideal) x1) b l k).trans (congrArg (fun r => x2 (ix2 r k)) (Fin.ext ?_)))
  show min (val_main_call0_v5 (F := Ideal) x1 (ix3 b l 0)).toInt.toNat (2 - 1) = (s b l).val
  rw [index_at hs]
  exact key _

end Cert.ReferenceIdeal.Net

end
-- ==== Proof.Input.lean ====
/-
  What the precondition says of the arguments: every state is 0 or 1, and the embedding's first row and the last two rows of the
  two folded weight matrices are finite.
-/
module

public import proofs.«01_k».proof.Proof.Gen.Pre_binary_states_finite_rows
public import proofs.«01_k».proof.Proof.Take
public import Idealize.ShloMosaic.PureOps.Ideal.Laws

@[expose] public section

noncomputable section

namespace Cert.Pre_binary_states_finite_rows.Net

open Cert.Pre_binary_states_finite_rows Idealize.ShloMosaic Idealize.ShloMosaic.ValueIdx

/-- A number whose absolute value is below infinity is a real number. -/
theorem real_of_abs (x : EReal) (h : FloatOps.cmpf (F := Ideal) (φ := .f32) .olt
    (FloatOps.hostAbsf (F := Ideal) (φ := .f32) x) (FloatOps.ofBits (F := Ideal) .f32 0x7F800000#32) = 1#1) : ∃ r : ℝ, x = r := by
  have htop : Ideal.ofBits .f32 0x7F800000#32 = ⊤ := by simp [Ideal.ofBits, Ideal.ieee]
  have hlt : max x (-x) < ⊤ := by
    have h' : BitVec.ofBool (decide (max x (-x) < Ideal.ofBits .f32 0x7F800000#32)) = 1#1 := h
    rw [htop] at h'
    by_contra hn
    rw [decide_eq_false hn] at h'
    exact absurd h' (by decide)
  induction x with
  | bot => exact absurd hlt (by simp)
  | top => exact absurd hlt (by simp)
  | coe r => exact ⟨r, rfl⟩

/-- A word between 0 and 1 is the word of one of the two numbers. -/
theorem word_of_range (x : BitVec 32) (h : IntOp.andi (IntOp.cmpi .sge x 0#32) (IntOp.cmpi .slt x 2#32) = 1#1) :
    ∃ a : Fin 2, x = BitVec.ofNat 32 a.val := by
  obtain ⟨h0, h1⟩ := IntOp.andi_eq_one.1 h
  have h0' : (0 : Int) ≤ x.toInt := IntOp.cmpi_sge.1 h0
  have h1' : x.toInt < 2 := IntOp.cmpi_slt.1 h1
  rcases (by omega : x.toInt = 0 ∨ x.toInt = 1) with h | h
  · exact ⟨0, BitVec.eq_of_toInt_eq h⟩
  · exact ⟨1, BitVec.eq_of_toInt_eq h⟩

variable (a0 : FVec Ideal S16x4096x8 .f32) (a1 : IVec S16x4096 32) (a2 : FVec Ideal S2x2 .f32) (a3 : FVec Ideal S10x10 .f32)
  (a4 : FVec Ideal S10 .f32) (a5 a6 : FVec Ideal S10x128 .f32) (a7 : FVec Ideal S128 .f32) (a8 : FVec Ideal S128x128 .f32)
  (a9 : FVec Ideal S128 .f32) (a10 a11 : FVec Ideal S128x10 .f32) (a12 : FVec Ideal S10 .f32) (a13 : FVec Ideal S10x16 .f32)
  (a14 : FVec Ideal S16 .f32) (a15 : FVec Ideal S32x16x3 .f32) (a16 : FVec Ideal S32 .f32)

/-- Every state is the word of 0 or of 1. -/
theorem states (h : (fn (F := Ideal) a0 a1 a2 a3 a4 a5 a6 a7 a8 a9 a10 a11 a12 a13 a14 a15 a16).1 = fun _ => 1#1) :
    ∃ s : Fin 16 → Fin 4096 → Fin 2, Cert.ReferenceIdeal.Net.Codes a1 s := by
  have each : ∀ (b : Fin 16) (l : Fin 4096), ∃ a : Fin 2, a1 (ix2 b l) = BitVec.ofNat 32 a.val :=
    fun b l => word_of_range _ (congrFun h (ix2 b l))
  choose s hs using each
  exact ⟨s, hs⟩

/-- The embedding's first row is finite. -/
theorem embedding_row (h : (fn (F := Ideal) a0 a1 a2 a3 a4 a5 a6 a7 a8 a9 a10 a11 a12 a13 a14 a15 a16).2.1 = fun _ => 1#1)
    (i : Fin 2) : ∃ r : ℝ, a2 (ix2 0 i) = r :=
  real_of_abs _ ((congrArg (fun v => FloatOps.cmpf (F := Ideal) (φ := .f32) .olt (FloatOps.hostAbsf (F := Ideal) (φ := .f32) v)
    (FloatOps.ofBits (F := Ideal) .f32 0x7F800000#32)) (extractStridedSlice_apply ![0, 0] a2 Facts.slices_S2x2_S1x2_0_0 (ix2 0 i) (ix2 0 i)
      (fun a => match a with | ⟨0, _⟩ => rfl | ⟨1, _⟩ => (Nat.zero_add _).symm))).symm.trans (congrFun h (ix2 0 i)))

/-- The first pooling matrix's last two rows are finite. -/
theorem pool_rows (h : (fn (F := Ideal) a0 a1 a2 a3 a4 a5 a6 a7 a8 a9 a10 a11 a12 a13 a14 a15 a16).2.2.1 = fun _ => 1#1)
    (k : Fin 2) (k' : Fin 10) (hk : k'.val = 8 + k.val) (j : Fin 10) : ∃ r : ℝ, a3 (ix2 k' j) = r :=
  real_of_abs _ ((congrArg (fun v => FloatOps.cmpf (F := Ideal) (φ := .f32) .olt (FloatOps.hostAbsf (F := Ideal) (φ := .f32) v)
    (FloatOps.ofBits (F := Ideal) .f32 0x7F800000#32)) (extractStridedSlice_apply ![8, 0] a3 Facts.slices_S10x10_S2x10_8_0 (ix2 k j) (ix2 k' j)
      (fun a => match a with | ⟨0, _⟩ => hk | ⟨1, _⟩ => (Nat.zero_add _).symm))).symm.trans (congrFun h (ix2 k j)))

/-- The first layer's own matrix's last two rows are finite. -/
theorem self_rows (h : (fn (F := Ideal) a0 a1 a2 a3 a4 a5 a6 a7 a8 a9 a10 a11 a12 a13 a14 a15 a16).2.2.2 = fun _ => 1#1)
    (k : Fin 2) (k' : Fin 10) (hk : k'.val = 8 + k.val) (j : Fin 128) : ∃ r : ℝ, a5 (ix2 k' j) = r :=
  real_of_abs _ ((congrArg (fun v => FloatOps.cmpf (F := Ideal) (φ := .f32) .olt (FloatOps.hostAbsf (F := Ideal) (φ := .f32) v)
    (FloatOps.ofBits (F := Ideal) .f32 0x7F800000#32)) (extractStridedSlice_apply ![8, 0] a5 Facts.slices_S10x128_S2x128_8_0 (ix2 k j) (ix2 k' j)
      (fun a => match a with | ⟨0, _⟩ => hk | ⟨1, _⟩ => (Nat.zero_add _).symm))).symm.trans (congrFun h (ix2 k j)))

end Cert.Pre_binary_states_finite_rows.Net

end
-- ==== Proof.Spec.lean ====
/-
  The mathematics of the chain-graph network on one batch row, over the extended reals and with no program in sight: the
  two neighbour-pooling layers, the processing layer, the convolution of width three and the exponential linear unit; and
  the one equation that makes the kernel's folded first layer equal the plain one.
-/
module

public import Mathlib.Data.EReal.Operations
public import Mathlib.Algebra.BigOperators.Fin
public import Idealize.ShloMosaic.PureOps.Ideal

@[expose] public section

noncomputable section

namespace Cert.Chain

open Idealize.ShloMosaic
open scoped BigOperators

/-- A matrix over the chain: for each of the 4096 nodes, `n` numbers. -/
abbrev Rows (n : Nat) := Fin 4096 → Fin n → EReal

/-- Each node's numbers times a weight matrix. -/
def lin {n m : Nat} (x : Rows n) (W : Fin n → Fin m → EReal) : Rows m := fun l j => ∑ k, x l k * W k j

/-- A bias added at every node. -/
def bias {m : Nat} (x : Rows m) (b : Fin m → EReal) : Rows m := fun l j => x l j + b j

/-- The larger of each number and zero. -/
def relu {m : Nat} (x : Rows m) : Rows m := fun l j => max (x l j) 0

/-- Each node's predecessor's numbers, zero at the first node. -/
def prev {m : Nat} (x : Rows m) : Rows m :=
  fun l j => if l.val = 0 then 0 else x ⟨l.val - 1, by have := l.isLt; omega⟩ j

/-- One neighbour-pooling layer: the node's own part, its predecessor's pooled part, and the bias. -/
def layer {n m : Nat} (x : Rows n) (Wp : Fin n → Fin n → EReal) (bp : Fin n → EReal) (Ws Wn : Fin n → Fin m → EReal)
    (b : Fin m → EReal) : Rows m :=
  fun l j => lin x Ws l j + lin (prev (relu (bias (lin x Wp) bp))) Wn l j + b j

/-- The processing layer's hyperbolic tangent. -/
def proc {n m : Nat} (h : Rows n) (W : Fin n → Fin m → EReal) (b : Fin m → EReal) : Rows m :=
  fun l j => Ideal.tanh (bias (lin h W) b l j)

/-- The exponential linear unit. -/
def elu (y : EReal) : EReal := if 0 < y then y else Ideal.exp y - 1

/-- One tap of the convolution: the output channel's weights against the node `t` places on. -/
def tap (ci : Rows 16) (W : Fin 32 → Fin 16 → Fin 3 → EReal) (c : Fin 32) (l : Fin 4094) (t : Fin 3) : EReal :=
  ∑ k, ci ⟨l.val + t.val, by have := l.isLt; have := t.isLt; omega⟩ k * W c k t

/-- The convolution of width three, its bias, and the unit after it. -/
def conv (ci : Rows 16) (W : Fin 32 → Fin 16 → Fin 3 → EReal) (b : Fin 32 → EReal) (c : Fin 32) (l : Fin 4094) : EReal :=
  elu (tap ci W c l 0 + tap ci W c l 1 + tap ci W c l 2 + b c)

/-- Everything after the first layer's output. -/
def tail (h1 : Rows 128) (Wp : Fin 128 → Fin 128 → EReal) (bp : Fin 128 → EReal) (Ws Wn : Fin 128 → Fin 10 → EReal)
    (b : Fin 10 → EReal) (Wr : Fin 10 → Fin 16 → EReal) (br : Fin 16 → EReal) (Wc : Fin 32 → Fin 16 → Fin 3 → EReal)
    (bc : Fin 32 → EReal) (c : Fin 32) (l : Fin 4094) : EReal :=
  conv (proc (layer h1 Wp bp Ws Wn b) Wr br) Wc bc c l

/-- A node's ten plain inputs: its eight coordinates and its state's two embedding numbers. -/
def locs (x : Rows 8) (s : Fin 4096 → Fin 2) (e : Fin 2 → Fin 2 → EReal) : Rows 10 :=
  fun l k => if h : k.val < 8 then x l ⟨k.val, h⟩ else e (s l) ⟨k.val - 8, by have := k.isLt; omega⟩

/-- A node's ten inputs as the kernel holds them: its eight coordinates, its state as a number, and one. -/
def feats (x : Rows 8) (s : Fin 4096 → EReal) : Rows 10 :=
  fun l k => if h : k.val < 8 then x l ⟨k.val, h⟩ else if k.val = 8 then s l else 1

/-- The folded weights the kernel uses with those inputs: the first eight rows are the plain weights; the ninth is what
    a state of one adds over a state of zero; the last is what a state of zero adds, and the bias. -/
def folded {m : Nat} (W : Fin 10 → Fin m → EReal) (b : Fin m → EReal) (e : Fin 2 → Fin 2 → EReal) : Fin 10 → Fin m → EReal :=
  fun k j =>
    if k.val < 8 then W k j
    else if k.val = 8 then (e 1 0 - e 0 0) * W 8 j + (e 1 1 - e 0 1) * W 9 j
    else e 0 0 * W 8 j + e 0 1 * W 9 j + b j

/-- A difference of an extended real and a finite one, times a finite weight, plus the finite one times that weight, is
    the extended real times the weight. -/
theorem sub_mul_add_mul (x : EReal) (a w : ℝ) : (x - (a : EReal)) * (w : EReal) + (a : EReal) * (w : EReal) = x * (w : EReal) := by
  induction x with
  | bot =>
    rcases lt_trichotomy w 0 with h | h | h
    · rw [EReal.bot_sub, EReal.bot_mul_coe_of_neg h, ← EReal.coe_mul, EReal.top_add_coe]
    · subst h; simp
    · rw [EReal.bot_sub, EReal.bot_mul_coe_of_pos h, EReal.bot_add]
  | top =>
    rcases lt_trichotomy w 0 with h | h | h
    · rw [EReal.top_sub_coe, EReal.top_mul_coe_of_neg h, EReal.bot_add]
    · subst h; simp
    · rw [EReal.top_sub_coe, EReal.top_mul_coe_of_pos h, ← EReal.coe_mul, EReal.top_add_coe]
  | coe r =>
    rw [← EReal.coe_sub, ← EReal.coe_mul, ← EReal.coe_mul, ← EReal.coe_add, ← EReal.coe_mul]
    congr 1; ring

/-- A sum of ten numbers is the first eight's sum, then the ninth, then the tenth. -/
theorem sum_ten (f : Fin 10 → EReal) : ∑ k, f k = (∑ k : Fin 8, f ⟨k.val, by have := k.isLt; omega⟩) + f 8 + f 9 := by
  rw [Fin.sum_univ_castSucc, Fin.sum_univ_castSucc]
  rfl

/-- **The fold.** With states zero or one, a finite first embedding row and finite weights on the embedding's two
    inputs, the kernel's folded product is the plain product and the bias. -/
theorem fold {m : Nat} (x : Rows 8) (s : Fin 4096 → Fin 2) (e : Fin 2 → Fin 2 → EReal) (W : Fin 10 → Fin m → EReal)
    (b : Fin m → EReal) (he : ∀ i, ∃ r : ℝ, e 0 i = r) (h8 : ∀ j, ∃ r : ℝ, W 8 j = r) (h9 : ∀ j, ∃ r : ℝ, W 9 j = r) :
    lin (feats x (fun l => if s l = 0 then 0 else 1)) (folded W b e) = bias (lin (locs x s e) W) b := by
  funext l j
  obtain ⟨a0, ha0⟩ := he 0
  obtain ⟨a1, ha1⟩ := he 1
  obtain ⟨w8, hw8⟩ := h8 j
  obtain ⟨w9, hw9⟩ := h9 j
  show ∑ k, feats x _ l k * folded W b e k j = ∑ k, locs x s e l k * W k j + b j
  rw [sum_ten, sum_ten]
  have h1 : ∀ k : Fin 8, feats x (fun l => if s l = 0 then 0 else 1) l ⟨k.val, by have := k.isLt; omega⟩
      * folded W b e ⟨k.val, by have := k.isLt; omega⟩ j
      = locs x s e l ⟨k.val, by have := k.isLt; omega⟩ * W ⟨k.val, by have := k.isLt; omega⟩ j := by
    intro k
    unfold feats folded locs
    rw [dif_pos k.isLt, dif_pos k.isLt, if_pos k.isLt]
  rw [Finset.sum_congr rfl fun k _ => h1 k]
  have f8 : feats x (fun l => if s l = 0 then 0 else 1) l 8 = if s l = 0 then 0 else 1 := rfl
  have f9 : feats x (fun l => if s l = 0 then 0 else 1) l 9 = 1 := rfl
  have g8 : folded W b e 8 j = (e 1 0 - e 0 0) * W 8 j + (e 1 1 - e 0 1) * W 9 j := rfl
  have g9 : folded W b e 9 j = e 0 0 * W 8 j + e 0 1 * W 9 j + b j := rfl
  have k8 : locs x s e l 8 = e (s l) 0 := rfl
  have k9 : locs x s e l 9 = e (s l) 1 := rfl
  rw [f8, f9, g8, g9, k8, k9, one_mul, ha0, ha1, hw8, hw9]
  by_cases hs : s l = 0
  · rw [if_pos hs, zero_mul, add_zero, hs, ha0, ha1]
    ac_rfl
  · have hs1 : s l = 1 := by omega
    rw [if_neg hs, one_mul, hs1, ← sub_mul_add_mul (e 1 0) a0 w8, ← sub_mul_add_mul (e 1 1) a1 w9]
    ac_rfl

end Cert.Chain

end
-- ==== Proof.Mat.lean ====
/-
  Operations on matrices (arrays of two axes) read at one element: the product that contracts the first axis of both
  operands, joins along either axis, and a column of biases spread along the rows. The extents are variables.
-/
module

public import Idealize.ShloMosaic.Lib.Pipeline.Value
public import Idealize.ShloMosaic.Lib.ValueIdx
public import Idealize.ShloMosaic.Lib.IdealHost
public import Idealize.ShloMosaic.PureOps.Ideal.Laws

@[expose] public section

noncomputable section

namespace Cert.Mat

open Idealize.ShloMosaic Idealize.ShloMosaic.ValueIdx
open scoped BigOperators

/-- The dimension numbers of a product contracting the first axis of both operands. -/
abbrev firstDims (K M N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The product read at `(i, j)`: the accumulator there plus the sum over the first axis. -/
theorem product_at {K M N : Nat} (wf : DotDims.WF ⟨2, ![K, M]⟩ ⟨2, ![K, N]⟩ ⟨2, ![M, N]⟩ [0] [0] [1] [1] [] []) {φ₁ φ₂ : FTy}
    (prec : Option ContractPrecision) (A : FVec Ideal ⟨2, ![K, M]⟩ φ₁) (B : FVec Ideal ⟨2, ![K, N]⟩ φ₂)
    (acc : FVec Ideal ⟨2, ![M, N]⟩ .f32) (i : Fin M) (j : Fin N) :
    FloatOps.matmul (firstDims K M N wf) prec A B acc (ix2 i j) = acc (ix2 i j) + ∑ k : Fin K, A (ix2 k i) * B (ix2 k j) := by
  rw [Ideal.matmul_apply, ← Equiv.sum_comp (contrEquiv1 (firstDims K M N wf) K rfl rfl).symm]
  refine congrArg (acc (ix2 i j) + ·) (Finset.sum_congr rfl fun k _ => ?_)
  have hk := contrEquiv1_symm_val (firstDims K M N wf) K rfl rfl k
  have el : (firstDims K M N wf).lhsIdx (ix2 i j) ((contrEquiv1 (firstDims K M N wf) K rfl rfl).symm k) = ix2 k i := by
    funext a; apply Fin.ext
    match a with
    | ⟨0, _⟩ => exact hk
    | ⟨1, _⟩ => rfl
  have er : (firstDims K M N wf).rhsIdx (ix2 i j) ((contrEquiv1 (firstDims K M N wf) K rfl rfl).symm k) = ix2 k j := by
    funext a; apply Fin.ext
    match a with
    | ⟨0, _⟩ => exact hk
    | ⟨1, _⟩ => rfl
  rw [el, er]

variable {α : Type}

/-- A join along the first axis read in its first part. -/
theorem rows_top {a b c n : Nat} (x : (⟨2, ![a, n]⟩ : Shape).Idx → α) (y : (⟨2, ![b, n]⟩ : Shape).Idx → α)
    (h : Shape.Concatenates [⟨2, ![a, n]⟩, ⟨2, ![b, n]⟩] (⟨2, ![c, n]⟩ : Shape) 0) (k : Fin c) (l : Fin n) (hk : k.val < a) :
    concatenate (⟨2, ![c, n]⟩ : Shape) 0 [⟨_, x⟩, ⟨_, y⟩] h (ix2 k l) = x (ix2 ⟨k.val, hk⟩ l) :=
  concatenate_pair_apply_left _ x y h _ rfl _ (fun b => match b with | ⟨0, _⟩ => rfl | ⟨1, _⟩ => rfl)

/-- A join along the first axis read in its second part. -/
theorem rows_bottom {a b c n : Nat} (x : (⟨2, ![a, n]⟩ : Shape).Idx → α) (y : (⟨2, ![b, n]⟩ : Shape).Idx → α)
    (h : Shape.Concatenates [⟨2, ![a, n]⟩, ⟨2, ![b, n]⟩] (⟨2, ![c, n]⟩ : Shape) 0) (k : Fin c) (l : Fin n) (k' : Fin b)
    (hk : k'.val + a = k.val) :
    concatenate (⟨2, ![c, n]⟩ : Shape) 0 [⟨_, x⟩, ⟨_, y⟩] h (ix2 k l) = y (ix2 k' l) :=
  concatenate_pair_apply_right _ x y h _ rfl rfl _
    (fun b hb => match b, hb with | ⟨0, _⟩, hb => absurd rfl hb | ⟨1, _⟩, _ => rfl) hk

/-- A join along the second axis read in its first part. -/
theorem cols_left {a b c n : Nat} (x : (⟨2, ![n, a]⟩ : Shape).Idx → α) (y : (⟨2, ![n, b]⟩ : Shape).Idx → α)
    (h : Shape.Concatenates [⟨2, ![n, a]⟩, ⟨2, ![n, b]⟩] (⟨2, ![n, c]⟩ : Shape) 1) (k : Fin n) (l : Fin c) (hl : l.val < a) :
    concatenate (⟨2, ![n, c]⟩ : Shape) 1 [⟨_, x⟩, ⟨_, y⟩] h (ix2 k l) = x (ix2 k ⟨l.val, hl⟩) :=
  concatenate_pair_apply_left _ x y h _ rfl _ (fun b => match b with | ⟨0, _⟩ => rfl | ⟨1, _⟩ => rfl)

/-- A join along the second axis read in its second part. -/
theorem cols_right {a b c n : Nat} (x : (⟨2, ![n, a]⟩ : Shape).Idx → α) (y : (⟨2, ![n, b]⟩ : Shape).Idx → α)
    (h : Shape.Concatenates [⟨2, ![n, a]⟩, ⟨2, ![n, b]⟩] (⟨2, ![n, c]⟩ : Shape) 1) (k : Fin n) (l : Fin c) (l' : Fin b)
    (hl : l'.val + a = l.val) :
    concatenate (⟨2, ![n, c]⟩ : Shape) 1 [⟨_, x⟩, ⟨_, y⟩] h (ix2 k l) = y (ix2 k l') :=
  concatenate_pair_apply_right _ x y h _ rfl rfl _
    (fun b hb => match b, hb with | ⟨0, _⟩, _ => rfl | ⟨1, _⟩, hb => absurd rfl hb) hl

/-- A join of three along the first axis read in its first part. -/
theorem three_first {a b c d n : Nat} (x : (⟨2, ![a, n]⟩ : Shape).Idx → α) (y : (⟨2, ![b, n]⟩ : Shape).Idx → α)
    (z : (⟨2, ![c, n]⟩ : Shape).Idx → α)
    (h : Shape.Concatenates [⟨2, ![a, n]⟩, ⟨2, ![b, n]⟩, ⟨2, ![c, n]⟩] (⟨2, ![d, n]⟩ : Shape) 0) (k : Fin d) (l : Fin n)
    (k' : Fin a) (hk : k'.val = k.val) :
    concatenate (⟨2, ![d, n]⟩ : Shape) 0 [⟨_, x⟩, ⟨_, y⟩, ⟨_, z⟩] h (ix2 k l) = x (ix2 k' l) :=
  concatenate_apply_piece 0 [⟨_, x⟩, ⟨_, y⟩, ⟨_, z⟩] h _ 0 (by simp) _ x rfl rfl 0 rfl _
    (fun b hb => match b, hb with | ⟨0, _⟩, hb => absurd rfl hb | ⟨1, _⟩, _ => rfl) ((Nat.zero_add _).trans hk)

/-- A join of three along the first axis read in its second part. -/
theorem three_second {a b c d n : Nat} (x : (⟨2, ![a, n]⟩ : Shape).Idx → α) (y : (⟨2, ![b, n]⟩ : Shape).Idx → α)
    (z : (⟨2, ![c, n]⟩ : Shape).Idx → α)
    (h : Shape.Concatenates [⟨2, ![a, n]⟩, ⟨2, ![b, n]⟩, ⟨2, ![c, n]⟩] (⟨2, ![d, n]⟩ : Shape) 0) (k : Fin d) (l : Fin n)
    (k' : Fin b) (hk : a + k'.val = k.val) :
    concatenate (⟨2, ![d, n]⟩ : Shape) 0 [⟨_, x⟩, ⟨_, y⟩, ⟨_, z⟩] h (ix2 k l) = y (ix2 k' l) :=
  concatenate_apply_piece 0 [⟨_, x⟩, ⟨_, y⟩, ⟨_, z⟩] h _ 1 (by simp) _ y rfl rfl a rfl _
    (fun b hb => match b, hb with | ⟨0, _⟩, hb => absurd rfl hb | ⟨1, _⟩, _ => rfl) hk

/-- A join of three along the first axis read in its third part. -/
theorem three_third {a b c d n : Nat} (x : (⟨2, ![a, n]⟩ : Shape).Idx → α) (y : (⟨2, ![b, n]⟩ : Shape).Idx → α)
    (z : (⟨2, ![c, n]⟩ : Shape).Idx → α)
    (h : Shape.Concatenates [⟨2, ![a, n]⟩, ⟨2, ![b, n]⟩, ⟨2, ![c, n]⟩] (⟨2, ![d, n]⟩ : Shape) 0) (k : Fin d) (l : Fin n)
    (k' : Fin c) (hk : a + b + k'.val = k.val) :
    concatenate (⟨2, ![d, n]⟩ : Shape) 0 [⟨_, x⟩, ⟨_, y⟩, ⟨_, z⟩] h (ix2 k l) = z (ix2 k' l) :=
  concatenate_apply_piece 0 [⟨_, x⟩, ⟨_, y⟩, ⟨_, z⟩] h _ 2 (by simp) _ z rfl rfl (a + b) rfl _
    (fun b hb => match b, hb with | ⟨0, _⟩, hb => absurd rfl hb | ⟨1, _⟩, _ => rfl) hk

/-- A column spread along the rows read at `(k, l)` is the column's `k`-th number. -/
theorem spread_at {m n : Nat} (hm : m ≠ 1) (x : (⟨2, ![m, 1]⟩ : Shape).Idx → α)
    (h : (⟨2, ![m, 1]⟩ : Shape).Broadcasts ⟨2, ![m, n]⟩) (k : Fin m) (l : Fin n) :
    broadcastTo (⟨2, ![m, n]⟩ : Shape) x h (ix2 k l) = x (ix2 k 0) :=
  broadcastTo_apply x h _ _ (fun a => match a with
    | ⟨0, _⟩ => (if_neg hm).symm
    | ⟨1, _⟩ => rfl)

/-- Columns cut out of a matrix read at `(k, l)`: the matrix `o` columns on. -/
theorem cut_at {m n n' : Nat} (o : Nat) (x : (⟨2, ![m, n]⟩ : Shape).Idx → α)
    (h : (⟨2, ![m, n]⟩ : Shape).Slices ![0, o] ⟨2, ![m, n']⟩) (k : Fin m) (l : Fin n') (l' : Fin n) (hl : l'.val = o + l.val) :
    extractStridedSlice (⟨2, ![m, n']⟩ : Shape) ![0, o] x h (ix2 k l) = x (ix2 k l') :=
  extractStridedSlice_apply _ x h _ _ (fun a => match a with
    | ⟨0, _⟩ => (Nat.zero_add _).symm
    | ⟨1, _⟩ => hl)

end Cert.Mat

end
-- ==== Proof.Group.lean ====
/-
  What the kernel computes for one batch row, in stages: its features, the two neighbour-pooling layers, the processing
  layer and the convolution, each as a function of the whole matrices before it and each read at one element at the ideal
  values.
-/
module

public import proofs.«01_k».proof.Proof.Gen.KernelIdeal.Skeleton
public import proofs.«01_k».proof.Proof.Spec
public import proofs.«01_k».proof.Proof.Mat

@[expose] public section

noncomputable section

namespace Cert.KernelIdeal.Net

open Cert.KernelIdeal Cert.KernelIdeal.Gen Idealize.ShloMosaic Idealize.ShloMosaic.ValueIdx Cert.Chain Cert.Mat
open scoped BigOperators

section Stages
variable {F : FTy → Type} [FloatOps F]

/-- The ten features of every node: the coordinates, the states and ones. -/
def feat (x : FVec F S8x4096 .bf16) (s o : FVec F S1x4096 .bf16) : FVec F S10x4096 .bf16 :=
  concatenate S10x4096 0 [⟨S8x4096, x⟩, ⟨S1x4096, s⟩, ⟨S1x4096, o⟩] concatenates_S8x4096_S1x4096_S1x4096_S10x4096_d0

/-- The first layer's pooled numbers. -/
def pool1 (w : FVec F S10x10 .bf16) (x : FVec F S10x4096 .bf16) : FVec F S10x4096 .bf16 :=
  truncf .bf16 (maximumf (matmul dot_S10x10_S10x4096_S10x4096_0_0_1_1_n_n none w x (constant S10x4096 .f32 0x00000000#32))
    (broadcast S10x4096 (Scalar.ofBits .f32 0x00000000#32))) bitsLt_bf16_f32

/-- The first layer's output. -/
def hid1 (w : FVec F S10x10 .bf16) (v : FVec F S20x128 .bf16) (x : FVec F S10x4096 .bf16) : FVec F S128x4096 .bf16 :=
  truncf .bf16 (matmul dot_S20x128_S20x4096_S128x4096_0_0_1_1_n_n none v
    (concatenate S20x4096 0 [⟨S10x4096, x⟩, ⟨S10x4096, concatenate S10x4096 1
      [⟨S10x1, broadcast S10x1 (Scalar.ofBits .bf16 0x0000#16)⟩,
       ⟨S10x4095, extractStridedSlice S10x4095 ![0, 0] (pool1 w x) slices_S10x4096_o0_0_S10x4095⟩]
      concatenates_S10x1_S10x4095_S10x4096_d1⟩] concatenates_S10x4096_S10x4096_S20x4096_d0)
    (constant S128x4096 .f32 0x00000000#32)) bitsLt_bf16_f32

/-- The second layer's pooled numbers. -/
def pool2 (w : FVec F S128x128 .bf16) (b : FVec F S128x1 .f32) (h : FVec F S128x4096 .bf16) : FVec F S128x4096 .bf16 :=
  truncf .bf16 (maximumf (addf (matmul dot_S128x128_S128x4096_S128x4096_0_0_1_1_n_n none w h (constant S128x4096 .f32 0x00000000#32))
    (broadcastTo S128x4096 b broadcasts_S128x1_S128x4096)) (broadcast S128x4096 (Scalar.ofBits .f32 0x00000000#32))) bitsLt_bf16_f32

/-- The second layer's output. -/
def hid2 (w : FVec F S128x128 .bf16) (b : FVec F S128x1 .f32) (v : FVec F S256x10 .bf16) (d : FVec F S10x1 .f32)
    (h : FVec F S128x4096 .bf16) : FVec F S10x4096 .bf16 :=
  truncf .bf16 (addf (matmul dot_S256x10_S256x4096_S10x4096_0_0_1_1_n_n none v
    (concatenate S256x4096 0 [⟨S128x4096, h⟩, ⟨S128x4096, concatenate S128x4096 1
      [⟨S128x1, broadcast S128x1 (Scalar.ofBits .bf16 0x0000#16)⟩,
       ⟨S128x4095, extractStridedSlice S128x4095 ![0, 0] (pool2 w b h) slices_S128x4096_o0_0_S128x4095⟩]
      concatenates_S128x1_S128x4095_S128x4096_d1⟩] concatenates_S128x4096_S128x4096_S256x4096_d0)
    (constant S10x4096 .f32 0x00000000#32)) (broadcastTo S10x4096 d broadcasts_S10x1_S10x4096)) bitsLt_bf16_f32

/-- The processing layer's output. -/
def hid3 (w : FVec F S10x16 .bf16) (b : FVec F S16x1 .f32) (h : FVec F S10x4096 .bf16) : FVec F S16x4096 .bf16 :=
  truncf .bf16 (tanh (addf (matmul dot_S10x16_S10x4096_S16x4096_0_0_1_1_n_n none w h (constant S16x4096 .f32 0x00000000#32))
    (broadcastTo S16x4096 b broadcasts_S16x1_S16x4096))) bitsLt_bf16_f32

/-- The processing layer's output beside itself one and two nodes on. -/
def taps (c : FVec F S16x4096 .bf16) : FVec F S48x4096 .bf16 :=
  concatenate S48x4096 0 [⟨S16x4096, c⟩,
    ⟨S16x4096, concatenate S16x4096 1 [⟨S16x4095, extractStridedSlice S16x4095 ![0, 1] c slices_S16x4096_o0_1_S16x4095⟩,
      ⟨S16x1, extractStridedSlice S16x1 ![0, 0] (broadcast S16x2 (Scalar.ofBits .bf16 0x0000#16)) slices_S16x2_o0_0_S16x1⟩]
      concatenates_S16x4095_S16x1_S16x4096_d1⟩,
    ⟨S16x4096, concatenate S16x4096 1 [⟨S16x4094, extractStridedSlice S16x4094 ![0, 2] c slices_S16x4096_o0_2_S16x4094⟩,
      ⟨S16x2, broadcast S16x2 (Scalar.ofBits .bf16 0x0000#16)⟩] concatenates_S16x4094_S16x2_S16x4096_d1⟩]
    concatenates_S16x4096_S16x4096_S16x4096_S48x4096_d0

/-- The convolution before its unit. -/
def preout (w : FVec F S48x32 .bf16) (b : FVec F S32x1 .f32) (c : FVec F S16x4096 .bf16) : FVec F S32x4096 .f32 :=
  addf (matmul dot_S48x32_S48x4096_S32x4096_0_0_1_1_n_n none w (taps c) (constant S32x4096 .f32 0x00000000#32))
    (broadcastTo S32x4096 b broadcasts_S32x1_S32x4096)

/-- The output of one batch row. -/
def outp (w : FVec F S48x32 .bf16) (b : FVec F S32x1 .f32) (c : FVec F S16x4096 .bf16) : FVec F S1x32x4094 .f32 :=
  shapeCast S1x32x4094 (extractStridedSlice S32x4094 ![0, 0]
    (select (cmpf .ogt (preout w b c) (broadcast S32x4096 (Scalar.ofBits .f32 0x00000000#32))) (preout w b c)
      (subf (exp (preout w b c)) (broadcast S32x4096 (Scalar.ofBits .f32 0x3F800000#32))))
    slices_S32x4096_o0_0_S32x4094) shapeCasts_S32x4094_S1x32x4094

end Stages

/-- A matrix with a zero column in front and its last column dropped, read at `(k, l)`: the matrix one column back. -/
theorem shift_at {m : Nat} (z : (⟨2, ![m, 1]⟩ : Shape).Idx → EReal) (hz : ∀ i, z i = 0) (P : (⟨2, ![m, 4096]⟩ : Shape).Idx → EReal)
    (p : Rows m) (hP : ∀ k l, P (ix2 k l) = p l k) (hs : (⟨2, ![m, 4096]⟩ : Shape).Slices ![0, 0] ⟨2, ![m, 4095]⟩)
    (h : Shape.Concatenates [⟨2, ![m, 1]⟩, ⟨2, ![m, 4095]⟩] (⟨2, ![m, 4096]⟩ : Shape) 1) (k : Fin m) (l : Fin 4096) :
    concatenate (⟨2, ![m, 4096]⟩ : Shape) 1 [⟨⟨2, ![m, 1]⟩, z⟩, ⟨⟨2, ![m, 4095]⟩, extractStridedSlice _ ![0, 0] P hs⟩] h (ix2 k l)
      = prev p l k := by
  unfold prev
  by_cases hl : l.val = 0
  · rw [if_pos hl, cols_left z _ h k l (by omega), hz]
  · have hl' := l.isLt
    rw [if_neg hl, cols_right z _ h k l ⟨l.val - 1, by omega⟩ (by show l.val - 1 + 1 = l.val; omega),
      cut_at 0 P hs k _ ⟨l.val - 1, by omega⟩ (by simp), hP]

/-- The features read at a node. -/
theorem feat_at (x : FVec Ideal S8x4096 .bf16) (s o : FVec Ideal S1x4096 .bf16) (x' : Rows 8) (s' : Fin 4096 → EReal)
    (hx : ∀ k l, x (ix2 k l) = x' l k) (hs : ∀ l, s (ix2 0 l) = s' l) (ho : ∀ l, o (ix2 0 l) = 1) (k : Fin 10) (l : Fin 4096) :
    feat x s o (ix2 k l) = feats x' s' l k := by
  unfold feat feats
  have hk := k.isLt
  by_cases h : k.val < 8
  · rw [dif_pos h]
    exact (three_first x s o _ k l ⟨k.val, h⟩ rfl).trans (hx _ l)
  · rw [dif_neg h]
    by_cases h8 : k.val = 8
    · rw [if_pos h8]
      exact (three_second x s o _ k l 0 h8.symm).trans (hs l)
    · rw [if_neg h8]
      exact (three_third x s o _ k l 0 (by show 8 + 1 + 0 = k.val; omega)).trans (ho l)

/-- The first layer's pooled numbers read at a node. -/
theorem pool1_at (w : FVec Ideal S10x10 .bf16) (x : FVec Ideal S10x4096 .bf16) (W : Fin 10 → Fin 10 → EReal) (x' : Rows 10)
    (hw : ∀ k j, w (ix2 k j) = W k j) (hx : ∀ k l, x (ix2 k l) = x' l k) (j : Fin 10) (l : Fin 4096) :
    pool1 w x (ix2 j l) = relu (lin x' W) l j := by
  show max (FloatOps.matmul (firstDims 10 10 4096 dot_S10x10_S10x4096_S10x4096_0_0_1_1_n_n_wf) none w x
    (constant (F := Ideal) S10x4096 .f32 0x00000000#32) (ix2 j l)) (Ideal.ofBits .f32 0x00000000#32) = max (∑ k, x' l k * W k j) 0
  rw [product_at, Ideal.ofBits_zero_f32, constant_apply, Ideal.ofBits_zero_f32, zero_add]
  congr 1
  exact Finset.sum_congr rfl fun k _ => by rw [hw, hx, mul_comm]

/-- The first layer's output read at a node. -/
theorem hid1_at (w : FVec Ideal S10x10 .bf16) (v : FVec Ideal S20x128 .bf16) (x : FVec Ideal S10x4096 .bf16)
    (W : Fin 10 → Fin 10 → EReal) (Ws Wn : Fin 10 → Fin 128 → EReal) (x' : Rows 10)
    (hw : ∀ k j, w (ix2 k j) = W k j) (hs : ∀ (k : Fin 10) j, v (ix2 (Fin.castAdd 10 k) j) = Ws k j)
    (hn : ∀ (k : Fin 10) j, v (ix2 (Fin.natAdd 10 k) j) = Wn k j)
    (hx : ∀ k l, x (ix2 k l) = x' l k) (j : Fin 128) (l : Fin 4096) :
    hid1 w v x (ix2 j l) = lin x' Ws l j + lin (prev (relu (lin x' W))) Wn l j := by
  unfold hid1
  rw [truncf_apply]
  refine (product_at dot_S20x128_S20x4096_S128x4096_0_0_1_1_n_n_wf none v _ _ j l).trans ?_
  rw [constant_apply, Ideal.ofBits_zero_f32, zero_add]
  refine (Fin.sum_univ_add (a := 10) (b := 10) _).trans ?_
  refine congrArg₂ (· + ·) (Finset.sum_congr rfl fun k _ => ?_) (Finset.sum_congr rfl fun k _ => ?_)
  · rw [hs, mul_comm]
    congr 1
    exact (rows_top x _ _ (Fin.castAdd 10 k) l k.isLt).trans (hx k l)
  · rw [hn, mul_comm]
    congr 1
    refine (rows_bottom x _ _ (Fin.natAdd 10 k) l k (Nat.add_comm _ _)).trans ?_
    exact shift_at _ (fun _ => Ideal.ofBits_zero_bf16) _ _ (fun k l => pool1_at w x W x' hw hx k l) _ _ k l

/-- The second layer's pooled numbers read at a node. -/
theorem pool2_at (w : FVec Ideal S128x128 .bf16) (b : FVec Ideal S128x1 .f32) (h : FVec Ideal S128x4096 .bf16)
    (W : Fin 128 → Fin 128 → EReal) (b' : Fin 128 → EReal) (h' : Rows 128)
    (hw : ∀ k j, w (ix2 k j) = W k j) (hb : ∀ j, b (ix2 j 0) = b' j) (hh : ∀ k l, h (ix2 k l) = h' l k) (j : Fin 128) (l : Fin 4096) :
    pool2 w b h (ix2 j l) = relu (bias (lin h' W) b') l j := by
  show max (FloatOps.matmul (firstDims 128 128 4096 dot_S128x128_S128x4096_S128x4096_0_0_1_1_n_n_wf) none w h
    (constant (F := Ideal) S128x4096 .f32 0x00000000#32) (ix2 j l) + broadcastTo S128x4096 b broadcasts_S128x1_S128x4096 (ix2 j l))
    (Ideal.ofBits .f32 0x00000000#32) = max (∑ k, h' l k * W k j + b' j) 0
  rw [product_at, Ideal.ofBits_zero_f32, constant_apply, Ideal.ofBits_zero_f32, zero_add, spread_at (by decide), hb]
  congr 2
  exact Finset.sum_congr rfl fun k _ => by rw [hw, hh, mul_comm]

/-- The second layer's output read at a node. -/
theorem hid2_at (w : FVec Ideal S128x128 .bf16) (b : FVec Ideal S128x1 .f32) (v : FVec Ideal S256x10 .bf16) (d : FVec Ideal S10x1 .f32)
    (h : FVec Ideal S128x4096 .bf16) (W : Fin 128 → Fin 128 → EReal) (b' : Fin 128 → EReal) (Ws Wn : Fin 128 → Fin 10 → EReal)
    (d' : Fin 10 → EReal) (h' : Rows 128)
    (hw : ∀ k j, w (ix2 k j) = W k j) (hb : ∀ j, b (ix2 j 0) = b' j)
    (hs : ∀ (k : Fin 128) j, v (ix2 (Fin.castAdd 128 k) j) = Ws k j) (hn : ∀ (k : Fin 128) j, v (ix2 (Fin.natAdd 128 k) j) = Wn k j)
    (hd : ∀ j, d (ix2 j 0) = d' j) (hh : ∀ k l, h (ix2 k l) = h' l k) (j : Fin 10) (l : Fin 4096) :
    hid2 w b v d h (ix2 j l) = layer h' W b' Ws Wn d' l j := by
  unfold hid2
  rw [truncf_apply, addf_apply, spread_at (by decide), hd]
  refine congrArg (· + d' j) ?_
  refine (product_at dot_S256x10_S256x4096_S10x4096_0_0_1_1_n_n_wf none v _ _ j l).trans ?_
  rw [constant_apply, Ideal.ofBits_zero_f32, zero_add]
  refine (Fin.sum_univ_add (a := 128) (b := 128) _).trans ?_
  refine congrArg₂ (· + ·) (Finset.sum_congr rfl fun k _ => ?_) (Finset.sum_congr rfl fun k _ => ?_)
  · rw [hs, mul_comm]
    congr 1
    exact (rows_top h _ _ (Fin.castAdd 128 k) l k.isLt).trans (hh k l)
  · rw [hn, mul_comm]
    congr 1
    refine (rows_bottom h _ _ (Fin.natAdd 128 k) l k (Nat.add_comm _ _)).trans ?_
    exact shift_at _ (fun _ => Ideal.ofBits_zero_bf16) _ _ (fun k l => pool2_at w b h W b' h' hw hb hh k l) _ _ k l

/-- The processing layer's output read at a node. -/
theorem hid3_at (w : FVec Ideal S10x16 .bf16) (b : FVec Ideal S16x1 .f32) (h : FVec Ideal S10x4096 .bf16)
    (W : Fin 10 → Fin 16 → EReal) (b' : Fin 16 → EReal) (h' : Rows 10)
    (hw : ∀ k j, w (ix2 k j) = W k j) (hb : ∀ j, b (ix2 j 0) = b' j) (hh : ∀ k l, h (ix2 k l) = h' l k) (j : Fin 16) (l : Fin 4096) :
    hid3 w b h (ix2 j l) = proc h' W b' l j := by
  show Ideal.tanh (FloatOps.matmul (firstDims 10 16 4096 dot_S10x16_S10x4096_S16x4096_0_0_1_1_n_n_wf) none w h
    (constant (F := Ideal) S16x4096 .f32 0x00000000#32) (ix2 j l) + broadcastTo S16x4096 b broadcasts_S16x1_S16x4096 (ix2 j l))
    = Ideal.tanh (∑ k, h' l k * W k j + b' j)
  rw [product_at, constant_apply, Ideal.ofBits_zero_f32, zero_add, spread_at (by decide), hb]
  congr 2
  exact Finset.sum_congr rfl fun k _ => by rw [hw, hh, mul_comm]

/-- The three taps read before the last two nodes: part `t` is the processing layer `t` nodes on. -/
theorem taps_at (c : FVec Ideal S16x4096 .bf16) (c' : Rows 16) (hc : ∀ k l, c (ix2 k l) = c' l k) (t : Fin 3) (k : Fin 16)
    (l : Fin 4096) (hl : l.val < 4094) (q : Fin 48) (hq : q.val = t.val * 16 + k.val) :
    taps c (ix2 q l) = c' ⟨l.val + t.val, by have := t.isLt; omega⟩ k := by
  unfold taps
  match t, hq with
  | ⟨0, _⟩, hq =>
    exact (three_first c _ _ _ q l k (by simpa using hq.symm)).trans (hc k l)
  | ⟨1, _⟩, hq =>
    refine (three_second c _ _ _ q l k (by simpa using hq.symm)).trans ?_
    refine (cols_left _ _ _ k l (show l.val < 4095 by omega)).trans ?_
    refine (cut_at 1 c _ k (⟨l.val, by omega⟩ : Fin 4095) ⟨l.val + 1, by omega⟩ (Nat.add_comm _ _)).trans ?_
    exact hc k _
  | ⟨2, _⟩, hq =>
    refine (three_third c _ _ _ q l k (by simpa using hq.symm)).trans ?_
    refine (cols_left _ _ _ k l hl).trans ?_
    refine (cut_at 2 c _ k (⟨l.val, hl⟩ : Fin 4094) ⟨l.val + 2, by omega⟩ (Nat.add_comm _ _)).trans ?_
    exact hc k _

/-- The convolution before its unit, read before the last two nodes. -/
theorem preout_at (w : FVec Ideal S48x32 .bf16) (b : FVec Ideal S32x1 .f32) (c : FVec Ideal S16x4096 .bf16)
    (W : Fin 32 → Fin 16 → Fin 3 → EReal) (b' : Fin 32 → EReal) (c' : Rows 16)
    (hw : ∀ (t : Fin 3) (k : Fin 16) (j : Fin 32) (q : Fin 48), q.val = t.val * 16 + k.val → w (ix2 q j) = W j k t)
    (hb : ∀ j, b (ix2 j 0) = b' j) (hc : ∀ k l, c (ix2 k l) = c' l k) (j : Fin 32) (l : Fin 4094) :
    preout w b c (ix2 j ⟨l.val, by have := l.isLt; omega⟩) = tap c' W j l 0 + tap c' W j l 1 + tap c' W j l 2 + b' j := by
  unfold preout
  rw [addf_apply, spread_at (by decide), hb]
  refine congrArg (· + b' j) ?_
  refine (product_at dot_S48x32_S48x4096_S32x4096_0_0_1_1_n_n_wf none w (taps c) _ j _).trans ?_
  rw [constant_apply, Ideal.ofBits_zero_f32, zero_add]
  refine (Fin.sum_univ_add (a := 32) (b := 16) _).trans ?_
  refine congrArg₂ (· + ·) ((Fin.sum_univ_add (a := 16) (b := 16) _).trans (congrArg₂ (· + ·) ?_ ?_)) ?_
  · refine Finset.sum_congr rfl fun k _ => ?_
    rw [hw 0 k j _ (by simp), mul_comm, taps_at c c' hc 0 k _ l.isLt _ (by simp)]
  · refine Finset.sum_congr rfl fun k _ => ?_
    rw [hw 1 k j _ (by simp [Nat.add_comm]), mul_comm, taps_at c c' hc 1 k _ l.isLt _ (by simp [Nat.add_comm])]
  · refine Finset.sum_congr rfl fun k _ => ?_
    rw [hw 2 k j _ (by simp [Nat.add_comm]), mul_comm, taps_at c c' hc 2 k _ l.isLt _ (by simp [Nat.add_comm])]

/-- A choice by "is above zero" between a number and its exponential less one is the exponential linear unit. -/
theorem elu_choice (y : EReal) : Scalar.select (Ideal.cmp .ogt y 0) y (Ideal.exp y - 1) = elu y := by
  unfold elu Ideal.cmp
  by_cases h : 0 < y
  · simp [h, Scalar.select]
  · simp [h, Scalar.select]

/-- The output of one batch row read at a channel and a node. -/
theorem outp_at (w : FVec Ideal S48x32 .bf16) (b : FVec Ideal S32x1 .f32) (c : FVec Ideal S16x4096 .bf16)
    (W : Fin 32 → Fin 16 → Fin 3 → EReal) (b' : Fin 32 → EReal) (c' : Rows 16)
    (hw : ∀ (t : Fin 3) (k : Fin 16) (j : Fin 32) (q : Fin 48), q.val = t.val * 16 + k.val → w (ix2 q j) = W j k t)
    (hb : ∀ j, b (ix2 j 0) = b' j) (hc : ∀ k l, c (ix2 k l) = c' l k) (i : Fin 1) (j : Fin 32) (l : Fin 4094) :
    outp w b c (ix3 i j l) = conv c' W b' j l := by
  unfold outp
  refine (shapeCast_addUnit_apply ![32, 4094] _ _ _).trans ?_
  have e : (fun a => (ix3 i j l : (⟨3, ![1, 32, 4094]⟩ : Shape).Idx) a.succ : (⟨2, ![32, 4094]⟩ : Shape).Idx) = ix2 j l := by
    funext a
    match a with
    | ⟨0, _⟩ => rfl
    | ⟨1, _⟩ => rfl
  refine (congrArg _ e).trans ?_
  refine (cut_at 0 _ _ j l (⟨l.val, by have := l.isLt; omega⟩ : Fin 4096) (Nat.zero_add _).symm).trans ?_
  rw [select_apply, cmpf_apply, subf_apply, broadcast_apply, broadcast_apply]
  show Scalar.select (Ideal.cmp .ogt (preout w b c _) (Ideal.ofBits .f32 0x00000000#32)) (preout w b c _)
    (Ideal.exp (preout w b c _) - Ideal.ofBits .f32 0x3F800000#32) = _
  rw [preout_at w b c W b' c' hw hb hc, Ideal.ofBits_zero_f32, Ideal.ofBits_one_f32, elu_choice]
  rfl

end Cert.KernelIdeal.Net

end
-- ==== Proof.Block.lean ====
/-
  What the kernel leaves in one output block: at row `i`, channel `c` and node `l`, the network of the spec on row `i` of
  the coordinate and state blocks, with the weights read out of the weight blocks.
-/
module

public import proofs.«01_k».proof.Proof.Gen.KernelIdeal.Frame
public import proofs.«01_k».proof.Proof.Group

@[expose] public section

noncomputable section

namespace Cert.KernelIdeal.Net

open Cert.KernelIdeal Cert.KernelIdeal.Gen Idealize.ShloMosaic Idealize.ShloMosaic.ValueIdx Cert.Chain Cert.Mat
open scoped BigOperators

section Pieces
variable {F : FTy → Type} [FloatOps F]

/-- The whole computation of one batch row from its coordinates, its states and the weights. -/
def rowOut (v1 : FVec F S10x10 .bf16) (v3 : FVec F S10x16 .bf16) (v8 : FVec F S20x128 .bf16) (v10 : FVec F S128x128 .bf16)
    (v13 : FVec F S256x10 .bf16) (v15 : FVec F S48x32 .bf16) (v17 : FVec F S128x1 .f32) (v19 : FVec F S10x1 .f32)
    (v21 : FVec F S16x1 .f32) (v23 : FVec F S32x1 .f32) (x : Vec F S1x8x4096 .bf16) (s : Vec F S1x1x4096 .i32) : FVec F S1x32x4094 .f32 :=
  outp v15 v23 (hid3 v3 v21 (hid2 v10 v17 v13 v19 (hid1 v1 v8 (feat
    (shapeCast S8x4096 x shapeCasts_S1x8x4096_S8x4096)
    (sitofp .bf16 (shapeCast S1x4096 s shapeCasts_S1x1x4096_S1x4096))
    (broadcast S1x4096 (Scalar.ofBits .bf16 0x3F80#16))))))

variable (v1 : FVec F S10x10 .bf16) (v3 : FVec F S10x16 .bf16) (v8 : FVec F S20x128 .bf16) (v10 : FVec F S128x128 .bf16)
    (v13 : FVec F S256x10 .bf16) (v15 : FVec F S48x32 .bf16) (v17 : FVec F S128x1 .f32) (v19 : FVec F S10x1 .f32)
    (v21 : FVec F S16x1 .f32) (v23 : FVec F S32x1 .f32) (x : Vec F S1x8x4096 .bf16) (s : Vec F S1x1x4096 .i32)

/-- The first row's stored value is that computation. -/
theorem piece0 : k0_pay16 (k0_pay15 v1 v3 v8 v10 v13 v15 v17 v19 v21 v23 (k0_pay12 x) (k0_pay13 s) k0_pay14)
    = rowOut v1 v3 v8 v10 v13 v15 v17 v19 v21 v23 x s := rfl

/-- The second row's stored value is that computation. -/
theorem piece1 : k0_pay18 v15 v23 (k0_pay17 v1 v3 v8 v10 v13 v17 v19 v21 x s) (Scalar.ofBits .bf16 0x0000#16)
    = rowOut v1 v3 v8 v10 v13 v15 v17 v19 v21 v23 x s := rfl

/-- The third row's stored value is that computation. -/
theorem piece2 : k0_pay21 v3 v13 v15 v19 v21 v23 (k0_pay19 v1 v8 x s) (k0_pay20 v1 v8 v10 v17 x s) (Scalar.ofBits .f32 0x00000000#32)
    = rowOut v1 v3 v8 v10 v13 v15 v17 v19 v21 v23 x s := rfl

/-- The fourth row's stored value is that computation. -/
theorem piece3 : k0_pay26 (k0_pay25 v1 v3 v8 v10 v13 v15 v17 v19 v21 v23 (k0_pay22 x) (k0_pay23 s) k0_pay24)
    = rowOut v1 v3 v8 v10 v13 v15 v17 v19 v21 v23 x s := rfl

/-- The fifth row's stored value is that computation. -/
theorem piece4 : k0_pay28 v15 v23 (k0_pay27 v1 v3 v8 v10 v13 v17 v19 v21 x s) (Scalar.ofBits .bf16 0x0000#16)
    = rowOut v1 v3 v8 v10 v13 v15 v17 v19 v21 v23 x s := rfl

/-- The sixth row's stored value is that computation. -/
theorem piece5 : k0_pay31 v3 v13 v15 v19 v21 v23 (k0_pay29 v1 v8 x s) (k0_pay30 v1 v8 v10 v17 x s) (Scalar.ofBits .f32 0x00000000#32)
    = rowOut v1 v3 v8 v10 v13 v15 v17 v19 v21 v23 x s := rfl

/-- The seventh row's stored value is that computation. -/
theorem piece6 : k0_pay36 (k0_pay35 v1 v3 v8 v10 v13 v15 v17 v19 v21 v23 (k0_pay32 x) (k0_pay33 s) k0_pay34)
    = rowOut v1 v3 v8 v10 v13 v15 v17 v19 v21 v23 x s := rfl

/-- The eighth row's stored value is that computation. -/
theorem piece7 : k0_pay1 v15 v23 (k0_pay37 v1 v3 v8 v10 v13 v17 v19 v21 x s) (Scalar.ofBits .bf16 0x0000#16)
    = rowOut v1 v3 v8 v10 v13 v15 v17 v19 v21 v23 x s := rfl

end Pieces

/-- One batch row's result at a channel and a node, when its inputs and the weights read as the given functions. -/
theorem rowOut_at (v1 : FVec Ideal S10x10 .bf16) (v3 : FVec Ideal S10x16 .bf16) (v8 : FVec Ideal S20x128 .bf16)
    (v10 : FVec Ideal S128x128 .bf16) (v13 : FVec Ideal S256x10 .bf16) (v15 : FVec Ideal S48x32 .bf16) (v17 : FVec Ideal S128x1 .f32)
    (v19 : FVec Ideal S10x1 .f32) (v21 : FVec Ideal S16x1 .f32) (v23 : FVec Ideal S32x1 .f32) (x : Vec Ideal S1x8x4096 .bf16)
    (s : Vec Ideal S1x1x4096 .i32)
    (x' : Rows 8) (s' : Fin 4096 → EReal) (W1 : Fin 10 → Fin 10 → EReal) (Ws1 Wn1 : Fin 10 → Fin 128 → EReal)
    (W2 : Fin 128 → Fin 128 → EReal) (bp2 : Fin 128 → EReal) (Ws2 Wn2 : Fin 128 → Fin 10 → EReal) (b2 : Fin 10 → EReal)
    (Wr : Fin 10 → Fin 16 → EReal) (br : Fin 16 → EReal) (Wc : Fin 32 → Fin 16 → Fin 3 → EReal) (bc : Fin 32 → EReal)
    (hx : ∀ k l, x (ix3 0 k l) = x' l k) (hs : ∀ l, (((s (ix3 0 0 l)).toInt : ℝ) : EReal) = s' l)
    (h1 : ∀ k j, v1 (ix2 k j) = W1 k j) (h3 : ∀ k j, v3 (ix2 k j) = Wr k j)
    (h8 : ∀ (k : Fin 10) j, v8 (ix2 (Fin.castAdd 10 k) j) = Ws1 k j) (h8' : ∀ (k : Fin 10) j, v8 (ix2 (Fin.natAdd 10 k) j) = Wn1 k j)
    (h10 : ∀ k j, v10 (ix2 k j) = W2 k j)
    (h13 : ∀ (k : Fin 128) j, v13 (ix2 (Fin.castAdd 128 k) j) = Ws2 k j) (h13' : ∀ (k : Fin 128) j, v13 (ix2 (Fin.natAdd 128 k) j) = Wn2 k j)
    (h15 : ∀ (t : Fin 3) (k : Fin 16) (j : Fin 32) (q : Fin 48), q.val = t.val * 16 + k.val → v15 (ix2 q j) = Wc j k t)
    (h17 : ∀ j, v17 (ix2 j 0) = bp2 j) (h19 : ∀ j, v19 (ix2 j 0) = b2 j) (h21 : ∀ j, v21 (ix2 j 0) = br j) (h23 : ∀ j, v23 (ix2 j 0) = bc j)
    (i : Fin 1) (j : Fin 32) (l : Fin 4094) :
    rowOut v1 v3 v8 v10 v13 v15 v17 v19 v21 v23 x s (ix3 i j l)
      = tail (fun l j => lin (feats x' s') Ws1 l j + lin (prev (relu (lin (feats x' s') W1))) Wn1 l j)
          W2 bp2 Ws2 Wn2 b2 Wr br Wc bc j l := by
  unfold rowOut
  refine outp_at v15 v23 _ Wc bc _ h15 h23 (fun k l => ?_) i j l
  refine hid3_at v3 v21 _ Wr br _ h3 h21 (fun k l => ?_) k l
  refine hid2_at v10 v17 v13 v19 _ W2 bp2 Ws2 Wn2 b2 _ h10 h17 h13 h13' h19 (fun k l => ?_) k l
  refine hid1_at v1 v8 _ W1 Ws1 Wn1 _ h1 h8 h8' (fun k l => ?_) k l
  refine feat_at _ _ _ x' s' (fun k l => ?_) (fun l => ?_) (fun l => Ideal.ofBits_one_bf16) k l
  · refine (shapeCast_dropUnit_apply ![8, 4096] x _ _).trans ?_
    refine (congrArg x ?_).trans (hx k l)
    funext a
    match a with
    | ⟨0, _⟩ => rfl
    | ⟨1, _⟩ => rfl
    | ⟨2, _⟩ => rfl
  · refine Eq.trans (congrArg (fun z : BitVec 32 => ((z.toInt : ℝ) : EReal)) ?_) (hs l)
    refine (shapeCast_dropUnit_apply ![1, 4096] s _ _).trans ?_
    refine congrArg s ?_
    funext a
    match a with
    | ⟨0, _⟩ => rfl
    | ⟨1, _⟩ => rfl
    | ⟨2, _⟩ => rfl

/-- A load of a rectangle of a matrix read at an element. -/
theorem ld2_at {α : EltTy → Type} {e : EltTy} {m n m' n' : Nat} (X : (⟨2, ![m, n]⟩ : Shape).Idx → α e) (o p : Nat)
    (inb : ∀ a, (![o, p] : Fin 2 → Nat) a + (⟨2, ![m', n']⟩ : Shape).size a ≤ (⟨2, ![m, n]⟩ : Shape).size a)
    (k : Fin m') (j : Fin n') (k' : Fin m) (j' : Fin n) (hk : k'.val = o + k.val) (hj : j'.val = p + j.val) :
    View.ld X (Rect.unit (s := (⟨2, ![m, n]⟩ : Shape)) ![o, p] (⟨2, ![m', n']⟩ : Shape).size inb) (ix2 k j) = X (ix2 k' j') := by
  rw [View.ld_unit]
  exact extractStridedSlice_apply _ X _ _ _ (fun a => match a with
    | ⟨0, _⟩ => hk
    | ⟨1, _⟩ => hj)

/-- A load of one leading slice of an array of three axes read at an element. -/
theorem ld3_at {α : EltTy → Type} {e : EltTy} {m n r : Nat} (X : (⟨3, ![m, n, r]⟩ : Shape).Idx → α e) (o : Nat)
    (inb : ∀ a, (![o, 0, 0] : Fin 3 → Nat) a + (⟨3, ![1, n, r]⟩ : Shape).size a ≤ (⟨3, ![m, n, r]⟩ : Shape).size a)
    (k : Fin n) (j : Fin r) (i' : Fin m) (hi : i'.val = o) :
    View.ld X (Rect.unit (s := (⟨3, ![m, n, r]⟩ : Shape)) ![o, 0, 0] (⟨3, ![1, n, r]⟩ : Shape).size inb) (ix3 0 k j) = X (ix3 i' k j) := by
  rw [View.ld_unit]
  exact extractStridedSlice_apply _ X _ _ _ (fun a => match a with
    | ⟨0, _⟩ => hi
    | ⟨1, _⟩ => (Nat.zero_add _).symm
    | ⟨2, _⟩ => (Nat.zero_add _).symm)

section Block
variable (x0 : Vec Ideal S8x8x4096 .bf16) (x1 : Vec Ideal S8x1x4096 .i32) (x2 : Vec Ideal S10x154 .bf16) (x3 : Vec Ideal S10x128 .f32)
  (x4 : Vec Ideal S128x128 .f32) (x5 : Vec Ideal S256x10 .f32) (x6 : Vec Ideal S48x32 .bf16) (x7 : Vec Ideal S186x1 .f32)

/-- The network on row `i` of the blocks. -/
def net (i : Fin 8) (c : Fin 32) (l : Fin 4094) : EReal :=
  tail (fun l j =>
      lin (feats (fun l k => x0 (ix3 i k l)) (fun l => (((x1 (ix3 i 0 l)).toInt : ℝ) : EReal)))
        (fun k j => x2 (ix2 k ⟨10 + j.val, by have := j.isLt; omega⟩)) l j
      + lin (prev (relu (lin (feats (fun l k => x0 (ix3 i k l)) (fun l => (((x1 (ix3 i 0 l)).toInt : ℝ) : EReal)))
          (fun k j => x2 (ix2 k ⟨0 + j.val, by have := j.isLt; omega⟩))))) (fun k j => x3 (ix2 k j)) l j)
    (fun k j => x4 (ix2 k j)) (fun j => x7 (ix2 ⟨0 + j.val, by have := j.isLt; omega⟩ 0))
    (fun k j => x5 (ix2 (Fin.castAdd 128 k) j)) (fun k j => x5 (ix2 (Fin.natAdd 128 k) j))
    (fun j => x7 (ix2 ⟨128 + j.val, by have := j.isLt; omega⟩ 0))
    (fun k j => x2 (ix2 k ⟨138 + j.val, by have := j.isLt; omega⟩)) (fun j => x7 (ix2 ⟨138 + j.val, by have := j.isLt; omega⟩ 0))
    (fun j k t => x6 (ix2 ⟨t.val * 16 + k.val, by have := t.isLt; have := k.isLt; omega⟩ j))
    (fun j => x7 (ix2 ⟨154 + j.val, by have := j.isLt; omega⟩ 0)) c l

/-- One batch row's stored value, from the loads the kernel makes of its blocks. -/
theorem row_at (o : Nat) (i : Fin 8) (hi : i.val = o)
    (inb0 : ∀ a, (![o, 0, 0] : Fin 3 → Nat) a + S1x8x4096.size a ≤ S8x8x4096.size a)
    (inb1 : ∀ a, (![o, 0, 0] : Fin 3 → Nat) a + S1x1x4096.size a ≤ S8x1x4096.size a) (q : Fin 1) (c : Fin 32) (l : Fin 4094) :
    rowOut (k0_pay38 x0 x1 x2 x3 x4 x5 x6 x7) (k0_pay39 x0 x1 x2 x3 x4 x5 x6 x7) (k0_pay40 x0 x1 x2 x3 x4 x5 x6 x7)
      (k0_pay41 x0 x1 x2 x3 x4 x5 x6 x7) (k0_pay42 x0 x1 x2 x3 x4 x5 x6 x7) (k0_pay43 x0 x1 x2 x3 x4 x5 x6 x7)
      (k0_pay44 x0 x1 x2 x3 x4 x5 x6 x7) (k0_pay45 x0 x1 x2 x3 x4 x5 x6 x7) (k0_pay46 x0 x1 x2 x3 x4 x5 x6 x7)
      (k0_pay47 x0 x1 x2 x3 x4 x5 x6 x7)
      (View.ld x0 (Rect.unit (s := S8x8x4096) ![o, 0, 0] S1x8x4096.size inb0))
      (View.ld x1 (Rect.unit (s := S8x1x4096) ![o, 0, 0] S1x1x4096.size inb1)) (ix3 q c l)
      = net x0 x1 x2 x3 x4 x5 x6 x7 i c l := by
  refine rowOut_at _ _ _ _ _ _ _ _ _ _ _ _ _ _ _ _ _ _ _ _ _ _ _ _ _ _ ?_ ?_ ?_ ?_ ?_ ?_ ?_ ?_ ?_ ?_ ?_ ?_ ?_ ?_ q c l
  · exact fun k l => ld3_at x0 o inb0 k l i hi
  · exact fun l => congrArg (fun z : BitVec 32 => ((z.toInt : ℝ) : EReal)) (ld3_at x1 o inb1 0 l i hi)
  · intro k j
    unfold k0_pay38 k0_pay2
    exact (congrFun (shapeCast_self _ _) _).trans (ld2_at x2 0 0 _ k j k _ (Nat.zero_add _).symm rfl)
  · intro k j
    unfold k0_pay39 k0_pay3
    exact (congrFun (shapeCast_self _ _) _).trans (ld2_at x2 0 138 _ k j k _ (Nat.zero_add _).symm rfl)
  · intro k j
    unfold k0_pay40 k0_pay4
    refine (rows_top _ _ _ (Fin.castAdd 10 k) j k.isLt).trans ?_
    exact (congrFun (shapeCast_self _ _) _).trans (ld2_at x2 0 10 _ k j k _ (Nat.zero_add _).symm rfl)
  · intro k j
    unfold k0_pay40 k0_pay4
    refine (rows_bottom _ _ _ (Fin.natAdd 10 k) j k (Nat.add_comm _ _)).trans ?_
    exact ld2_at x3 0 0 _ k j k j (Nat.zero_add _).symm (Nat.zero_add _).symm
  · exact fun k j => ld2_at x4 0 0 _ k j k j (Nat.zero_add _).symm (Nat.zero_add _).symm
  · intro k j
    unfold k0_pay42 k0_pay6
    exact (congrFun (shapeCast_self _ _) _).trans (ld2_at x5 0 0 _ _ j _ j (Nat.zero_add _).symm (Nat.zero_add _).symm)
  · intro k j
    unfold k0_pay42 k0_pay6
    exact (congrFun (shapeCast_self _ _) _).trans (ld2_at x5 0 0 _ _ j _ j (Nat.zero_add _).symm (Nat.zero_add _).symm)
  · intro t k j q hq
    unfold k0_pay43 k0_pay7
    exact (congrFun (shapeCast_self _ _) _).trans (ld2_at x6 0 0 _ q j _ j (hq.symm.trans (Nat.zero_add _).symm) (Nat.zero_add _).symm)
  · intro j
    unfold k0_pay44 k0_pay8
    exact (congrFun (shapeCast_self _ _) _).trans (ld2_at x7 0 0 _ j 0 _ 0 rfl rfl)
  · intro j
    unfold k0_pay45 k0_pay9
    exact (congrFun (shapeCast_self _ _) _).trans (ld2_at x7 128 0 _ j 0 _ 0 rfl rfl)
  · intro j
    unfold k0_pay46 k0_pay10
    exact (congrFun (shapeCast_self _ _) _).trans (ld2_at x7 138 0 _ j 0 _ 0 rfl rfl)
  · intro j
    unfold k0_pay47 k0_pay11
    exact (congrFun (shapeCast_self _ _) _).trans (ld2_at x7 154 0 _ j 0 _ 0 rfl rfl)

/-- **One output block**: row `i`, channel `c`, node `l` is the network on row `i`. -/
theorem out_at (i : Fin 8) (c : Fin 32) (l : Fin 4094) :
    out0_8 x0 x1 x2 x3 x4 x5 x6 x7 (ix3 i c l) = net x0 x1 x2 x3 x4 x5 x6 x7 i c l := by
  unfold out0_8
  refine (View.canon_apply_of_pieces (fun y : S8x32x4094.Idx => net x0 x1 x2 x3 x4 x5 x6 x7 (y 0) (y 1) (y 2)) _ ?_ (ix3 i c l)
    (cover0_8 _ _ _ _ _ _ _ _ _)).trans rfl
  have unit : ∀ (o : Nat) (n : Fin 8) (hn : n.val = o) (inb : ∀ a, (![o, 0, 0] : Fin 3 → Nat) a + S1x32x4094.size a ≤ S8x32x4094.size a)
      (q : Fin 1) (c : Fin 32) (l : Fin 4094),
      (Rect.unit (s := S8x32x4094) ![o, 0, 0] S1x32x4094.size inb).emb (ix3 q c l) = ix3 n c l := by
    intro o n hn inb q c l
    funext a
    apply Fin.ext
    rw [Rect.emb_apply]
    match a with
    | ⟨0, _⟩ => show o + 1 * q.val = n.val; have := q.isLt; omega
    | ⟨1, _⟩ => show 0 + 1 * c.val = c.val; omega
    | ⟨2, _⟩ => show 0 + 1 * l.val = l.val; omega
  intro p hp
  simp only [List.mem_cons, List.not_mem_nil, or_false] at hp
  rcases hp with rfl | rfl | rfl | rfl | rfl | rfl | rfl | rfl
  · intro x
    obtain ⟨q, c, l, rfl⟩ : ∃ q c l, x = ix3 q c l := ⟨x 0, x 1, x 2, eq_ix3 x⟩
    refine ((congrFun (piece7 _ _ _ _ _ _ _ _ _ _ _ _) _).trans (row_at x0 x1 x2 x3 x4 x5 x6 x7 7 7 rfl _ _ q c l)).trans ?_
    exact (congrArg (fun y : S8x32x4094.Idx => net x0 x1 x2 x3 x4 x5 x6 x7 (y 0) (y 1) (y 2)) (unit 7 7 rfl inb_S8x32x4094_S1x32x4094_7_0_0 q c l)).symm
  · intro x
    obtain ⟨q, c, l, rfl⟩ : ∃ q c l, x = ix3 q c l := ⟨x 0, x 1, x 2, eq_ix3 x⟩
    refine ((congrFun (piece6 _ _ _ _ _ _ _ _ _ _ _ _) _).trans (row_at x0 x1 x2 x3 x4 x5 x6 x7 6 6 rfl _ _ q c l)).trans ?_
    exact (congrArg (fun y : S8x32x4094.Idx => net x0 x1 x2 x3 x4 x5 x6 x7 (y 0) (y 1) (y 2)) (unit 6 6 rfl inb_S8x32x4094_S1x32x4094_6_0_0 q c l)).symm
  · intro x
    obtain ⟨q, c, l, rfl⟩ : ∃ q c l, x = ix3 q c l := ⟨x 0, x 1, x 2, eq_ix3 x⟩
    refine ((congrFun (piece5 _ _ _ _ _ _ _ _ _ _ _ _) _).trans (row_at x0 x1 x2 x3 x4 x5 x6 x7 5 5 rfl _ _ q c l)).trans ?_
    exact (congrArg (fun y : S8x32x4094.Idx => net x0 x1 x2 x3 x4 x5 x6 x7 (y 0) (y 1) (y 2)) (unit 5 5 rfl inb_S8x32x4094_S1x32x4094_5_0_0 q c l)).symm
  · intro x
    obtain ⟨q, c, l, rfl⟩ : ∃ q c l, x = ix3 q c l := ⟨x 0, x 1, x 2, eq_ix3 x⟩
    refine ((congrFun (piece4 _ _ _ _ _ _ _ _ _ _ _ _) _).trans (row_at x0 x1 x2 x3 x4 x5 x6 x7 4 4 rfl _ _ q c l)).trans ?_
    exact (congrArg (fun y : S8x32x4094.Idx => net x0 x1 x2 x3 x4 x5 x6 x7 (y 0) (y 1) (y 2)) (unit 4 4 rfl inb_S8x32x4094_S1x32x4094_4_0_0 q c l)).symm
  · intro x
    obtain ⟨q, c, l, rfl⟩ : ∃ q c l, x = ix3 q c l := ⟨x 0, x 1, x 2, eq_ix3 x⟩
    refine ((congrFun (piece3 _ _ _ _ _ _ _ _ _ _ _ _) _).trans (row_at x0 x1 x2 x3 x4 x5 x6 x7 3 3 rfl _ _ q c l)).trans ?_
    exact (congrArg (fun y : S8x32x4094.Idx => net x0 x1 x2 x3 x4 x5 x6 x7 (y 0) (y 1) (y 2)) (unit 3 3 rfl inb_S8x32x4094_S1x32x4094_3_0_0 q c l)).symm
  · intro x
    obtain ⟨q, c, l, rfl⟩ : ∃ q c l, x = ix3 q c l := ⟨x 0, x 1, x 2, eq_ix3 x⟩
    refine ((congrFun (piece2 _ _ _ _ _ _ _ _ _ _ _ _) _).trans (row_at x0 x1 x2 x3 x4 x5 x6 x7 2 2 rfl _ _ q c l)).trans ?_
    exact (congrArg (fun y : S8x32x4094.Idx => net x0 x1 x2 x3 x4 x5 x6 x7 (y 0) (y 1) (y 2)) (unit 2 2 rfl inb_S8x32x4094_S1x32x4094_2_0_0 q c l)).symm
  · intro x
    obtain ⟨q, c, l, rfl⟩ : ∃ q c l, x = ix3 q c l := ⟨x 0, x 1, x 2, eq_ix3 x⟩
    refine ((congrFun (piece1 _ _ _ _ _ _ _ _ _ _ _ _) _).trans (row_at x0 x1 x2 x3 x4 x5 x6 x7 1 1 rfl _ _ q c l)).trans ?_
    exact (congrArg (fun y : S8x32x4094.Idx => net x0 x1 x2 x3 x4 x5 x6 x7 (y 0) (y 1) (y 2)) (unit 1 1 rfl inb_S8x32x4094_S1x32x4094_1_0_0 q c l)).symm
  · intro x
    obtain ⟨q, c, l, rfl⟩ : ∃ q c l, x = ix3 q c l := ⟨x 0, x 1, x 2, eq_ix3 x⟩
    refine ((congrFun (piece0 _ _ _ _ _ _ _ _ _ _ _ _) _).trans (row_at x0 x1 x2 x3 x4 x5 x6 x7 0 0 rfl _ _ q c l)).trans ?_
    exact (congrArg (fun y : S8x32x4094.Idx => net x0 x1 x2 x3 x4 x5 x6 x7 (y 0) (y 1) (y 2)) (unit 0 0 rfl inb_S8x32x4094_S1x32x4094_0_0_0 q c l)).symm

end Block

end Cert.KernelIdeal.Net

end
-- ==== Proof.Host.lean ====
/-
  What the host operations leave in the kernel's operand buffers, as functions of the arguments.
-/
module

public import proofs.«01_k».proof.Proof.Gen.KernelIdeal.Frame

@[expose] public section

noncomputable section

namespace Cert.KernelIdeal.Net

open Cert.KernelIdeal Cert.KernelIdeal.Gen Idealize.ShloMosaic Idealize.ShloMosaic.StableHlo Idealize.ShloMosaic.TcCoe

variable {F : FTy → Type} [FloatOps F]

/-- An operation over three listed operands leaves its function of the three contents. -/
theorem three_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The second embedding row minus the first. -/
def gap (e : FVec F S2x2 .f32) : FVec F S2 .f32 :=
  subf (shapeCast S2 (extractStridedSlice S1x2 ![1, 0] e slices_S2x2_S1x2_1_0) shapeCasts_S1x2_S2)
    (shapeCast S2 (extractStridedSlice S1x2 ![0, 0] e slices_S2x2_S1x2_0_0) shapeCasts_S1x2_S2)
/-- The gap's first component. -/
def gap0 (e : FVec F S2x2 .f32) : FVec F S_ .f32 := shapeCast S_ (extractStridedSlice S1 ![0] (gap e) slices_S2_S1_0) shapeCasts_S1_S_
/-- The gap's second component. -/
def gap1 (e : FVec F S2x2 .f32) : FVec F S_ .f32 := shapeCast S_ (extractStridedSlice S1 ![1] (gap e) slices_S2_S1_1) shapeCasts_S1_S_
/-- The first embedding row's first component. -/
def base0 (e : FVec F S2x2 .f32) : FVec F S_ .f32 := shapeCast S_ (extractStridedSlice S1x1 ![0, 0] e slices_S2x2_S1x1_0_0) shapeCasts_S1x1_S_
/-- The first embedding row's second component. -/
def base1 (e : FVec F S2x2 .f32) : FVec F S_ .f32 := shapeCast S_ (extractStridedSlice S1x1 ![0, 1] e slices_S2x2_S1x1_0_1) shapeCasts_S1x1_S_

/-- Row eight of a matrix of 10 columns. -/
def rowEight_10 (W : FVec F S10x10 .f32) : FVec F S10 .f32 := shapeCast S10 (extractStridedSlice S1x10 ![8, 0] W slices_S10x10_S1x10_8_0) shapeCasts_S1x10_S10
/-- Row nine of a matrix of 10 columns. -/
def rowNine_10 (W : FVec F S10x10 .f32) : FVec F S10 .f32 := shapeCast S10 (extractStridedSlice S1x10 ![9, 0] W slices_S10x10_S1x10_9_0) shapeCasts_S1x10_S10
/-- The weight of the state: the embedding gap applied to the last two rows of 10 columns. -/
def slope_10 (e : FVec F S2x2 .f32) (W : FVec F S10x10 .f32) : FVec F S10 .f32 :=
  addf (mulf (broadcastInDim S10 ![] bcast_S_S10 (gap0 e)) (rowEight_10 W)) (mulf (broadcastInDim S10 ![] bcast_S_S10 (gap1 e)) (rowNine_10 W))
/-- The constant term: the first embedding row applied to the last two rows of 10 columns, and the bias. -/
def offset_10 (e : FVec F S2x2 .f32) (W : FVec F S10x10 .f32) (b : FVec F S10 .f32) : FVec F S10 .f32 :=
  addf (addf (mulf (broadcastInDim S10 ![] bcast_S_S10 (base0 e)) (rowEight_10 W)) (mulf (broadcastInDim S10 ![] bcast_S_S10 (base1 e)) (rowNine_10 W))) b
/-- The folded matrix of 10 columns: the first eight rows, the state's weight and the constant term. -/
def packed_10 (e : FVec F S2x2 .f32) (W : FVec F S10x10 .f32) (b : FVec F S10 .f32) : FVec F S10x10 .f32 :=
  concatenate S10x10 0 [⟨S8x10, extractStridedSlice S8x10 ![0, 0] W slices_S10x10_S8x10_0_0⟩,
    ⟨S1x10, broadcastInDim S1x10 ![1] bcast_S10_S1x10_1 (slope_10 e W)⟩,
    ⟨S1x10, broadcastInDim S1x10 ![1] bcast_S10_S1x10_1 (offset_10 e W b)⟩] concatenates_S8x10_S1x10_S1x10_S10x10_d0

/-- Row eight of a matrix of 128 columns. -/
def rowEight_128 (W : FVec F S10x128 .f32) : FVec F S128 .f32 := shapeCast S128 (extractStridedSlice S1x128 ![8, 0] W slices_S10x128_S1x128_8_0) shapeCasts_S1x128_S128
/-- Row nine of a matrix of 128 columns. -/
def rowNine_128 (W : FVec F S10x128 .f32) : FVec F S128 .f32 := shapeCast S128 (extractStridedSlice S1x128 ![9, 0] W slices_S10x128_S1x128_9_0) shapeCasts_S1x128_S128
/-- The weight of the state: the embedding gap applied to the last two rows of 128 columns. -/
def slope_128 (e : FVec F S2x2 .f32) (W : FVec F S10x128 .f32) : FVec F S128 .f32 :=
  addf (mulf (broadcastInDim S128 ![] bcast_S_S128 (gap0 e)) (rowEight_128 W)) (mulf (broadcastInDim S128 ![] bcast_S_S128 (gap1 e)) (rowNine_128 W))
/-- The constant term: the first embedding row applied to the last two rows of 128 columns, and the bias. -/
def offset_128 (e : FVec F S2x2 .f32) (W : FVec F S10x128 .f32) (b : FVec F S128 .f32) : FVec F S128 .f32 :=
  addf (addf (mulf (broadcastInDim S128 ![] bcast_S_S128 (base0 e)) (rowEight_128 W)) (mulf (broadcastInDim S128 ![] bcast_S_S128 (base1 e)) (rowNine_128 W))) b
/-- The folded matrix of 128 columns: the first eight rows, the state's weight and the constant term. -/
def packed_128 (e : FVec F S2x2 .f32) (W : FVec F S10x128 .f32) (b : FVec F S128 .f32) : FVec F S10x128 .f32 :=
  concatenate S10x128 0 [⟨S8x128, extractStridedSlice S8x128 ![0, 0] W slices_S10x128_S8x128_0_0⟩,
    ⟨S1x128, broadcastInDim S1x128 ![1] bcast_S128_S1x128_1 (slope_128 e W)⟩,
    ⟨S1x128, broadcastInDim S1x128 ![1] bcast_S128_S1x128_1 (offset_128 e W b)⟩] concatenates_S8x128_S1x128_S1x128_S10x128_d0

/-- The three first-layer and output matrices side by side. -/
def weights (e : FVec F S2x2 .f32) (W : FVec F S10x10 .f32) (b : FVec F S10 .f32) (Ws : FVec F S10x128 .f32) (bs : FVec F S128 .f32)
    (Wr : FVec F S10x16 .f32) : FVec F S10x154 .bf16 :=
  truncf .bf16 (concatenate S10x154 1 [⟨S10x10, packed_10 e W b⟩, ⟨S10x128, packed_128 e Ws bs⟩, ⟨S10x16, Wr⟩]
    concatenates_S10x10_S10x128_S10x16_S10x154_d1) bitsLt_bf16_f32
/-- The convolution's weights, one block of rows per tap. -/
def kernels (W : FVec F S32x16x3 .f32) : FVec F S48x32 .bf16 :=
  truncf .bf16 (shapeCast S48x32 (transpose S3x16x32 [2, 1, 0] W transposes_S32x16x3_S3x16x32_2_1_0) shapeCasts_S3x16x32_S48x32) bitsLt_bf16_f32
/-- The four biases in one column. -/
def biases (a : FVec F S128 .f32) (b : FVec F S10 .f32) (c : FVec F S16 .f32) (d : FVec F S32 .f32) : FVec F S186x1 .f32 :=
  broadcastInDim S186x1 ![0] bcast_S186_S186x1_0 (concatenate S186 0 [⟨S128, a⟩, ⟨S10, b⟩, ⟨S16, c⟩, ⟨S32, d⟩] concatenates_S128_S10_S16_S32_S186_d0)

variable (m : (ℓ : Loc nD τ sig) → Buf (Elt F) ℓ) (c : Dev nD)

/-- The coordinates with the node axis last. -/
theorem V_coords : (V m c main_v1 : FVec F S16x8x4096 .bf16)
    = truncf .bf16 (transpose S16x8x4096 [0, 2, 1] (m ((c : Thread nD τ).loc main_arg0) : FVec F S16x4096x8 .f32) transposes_S16x4096x8_S16x8x4096_0_2_1) bitsLt_bf16_f32 := by
  unfold V
  simp (disch := decide) only [after_cons, after_nil, unary_result', binary_result', reshape_result', three_result, nary4_result',
    unary_result_ne', binary_result_ne', reshape_result_ne', nary_result_ne']
/-- The states with a middle axis of one. -/
theorem V_states : (V m c main_v2 : IVec S16x1x4096 32)
    = shapeCast S16x1x4096 (m ((c : Thread nD τ).loc main_arg1) : IVec S16x4096 32) shapeCasts_S16x4096_S16x1x4096 := by
  unfold V
  simp (disch := decide) only [after_cons, after_nil, unary_result', binary_result', reshape_result', three_result, nary4_result',
    unary_result_ne', binary_result_ne', reshape_result_ne', nary_result_ne']
  rfl
set_option maxHeartbeats 8000000 in
/-- The folded weights. -/
theorem V_weights : (V m c main_v76 : FVec F S10x154 .bf16)
    = weights (m ((c : Thread nD τ).loc main_arg2) : FVec F S2x2 .f32) (m ((c : Thread nD τ).loc main_arg3) : FVec F S10x10 .f32)
      (m ((c : Thread nD τ).loc main_arg4) : FVec F S10 .f32) (m ((c : Thread nD τ).loc main_arg5) : FVec F S10x128 .f32)
      (m ((c : Thread nD τ).loc main_arg7) : FVec F S128 .f32) (m ((c : Thread nD τ).loc main_arg13) : FVec F S10x16 .f32) := by
  unfold V
  simp (disch := decide) only [after_cons, after_nil, unary_result', binary_result', reshape_result', three_result, nary4_result',
    unary_result_ne', binary_result_ne', reshape_result_ne', nary_result_ne']
  rfl
/-- The second layer's two matrices, one above the other. -/
theorem V_second : (V m c main_v77 : FVec F S256x10 .f32)
    = concatenate S256x10 0 [⟨S128x10, (m ((c : Thread nD τ).loc main_arg10) : FVec F S128x10 .f32)⟩,
        ⟨S128x10, (m ((c : Thread nD τ).loc main_arg11) : FVec F S128x10 .f32)⟩] concatenates_S128x10_S128x10_S256x10_d0 := by
  unfold V
  simp (disch := decide) only [after_cons, after_nil, unary_result', binary_result', reshape_result', three_result, nary4_result',
    unary_result_ne', binary_result_ne', reshape_result_ne', nary_result_ne']
  rfl
/-- The convolution's weights. -/
theorem V_kernels : (V m c main_v80 : FVec F S48x32 .bf16) = kernels (m ((c : Thread nD τ).loc main_arg15) : FVec F S32x16x3 .f32) := by
  unfold V
  simp (disch := decide) only [after_cons, after_nil, unary_result', binary_result', reshape_result', three_result, nary4_result',
    unary_result_ne', binary_result_ne', reshape_result_ne', nary_result_ne']
  rfl
/-- The biases. -/
theorem V_biases : (V m c main_v82 : FVec F S186x1 .f32)
    = biases (m ((c : Thread nD τ).loc main_arg9) : FVec F S128 .f32) (m ((c : Thread nD τ).loc main_arg12) : FVec F S10 .f32)
      (m ((c : Thread nD τ).loc main_arg14) : FVec F S16 .f32) (m ((c : Thread nD τ).loc main_arg16) : FVec F S32 .f32) := by
  unfold V
  simp (disch := decide) only [after_cons, after_nil, unary_result', binary_result', reshape_result', three_result, nary4_result',
    unary_result_ne', binary_result_ne', reshape_result_ne', nary_result_ne']
  rfl

end Cert.KernelIdeal.Net

end
-- ==== Proof.HostRead.lean ====
/-
  The kernel's operands read at one element, over the ideal values: the folded weights, the joined matrices and the biases as
  the arguments' own entries.
-/
module

public import proofs.«01_k».proof.Proof.Host
public import proofs.«01_k».proof.Proof.Spec
public import proofs.«01_k».proof.Proof.Mat

@[expose] public section

noncomputable section

namespace Cert.KernelIdeal.Net

open Cert.KernelIdeal Cert.KernelIdeal.Gen Idealize.ShloMosaic Idealize.ShloMosaic.ValueIdx Cert.Chain Cert.Mat

variable (e : FVec Ideal S2x2 .f32)

/-- One row of a two-by-two matrix as a vector. -/
theorem row_of_two (o : Nat) (h : S2x2.Slices ![o, 0] S1x2) (h' : S1x2.ShapeCasts S2) (r : Fin 2) (hr : r.val = o) (i : Fin 2) :
    shapeCast S2 (extractStridedSlice S1x2 ![o, 0] e h) h' (ix1 i) = e (ix2 r i) := by
  refine (shapeCast_apply _ h' _ (ix2 (0 : Fin 1) i) ?_).trans ?_
  · rw [Shape.rowMajor_val_two, Shape.rowMajor_val_one]
    exact (congrArg (· + i.val) (Nat.zero_mul 2)).trans (Nat.zero_add _)
  · exact extractStridedSlice_apply _ e h _ _ (fun a => match a with
      | ⟨0, _⟩ => hr
      | ⟨1, _⟩ => (Nat.zero_add _).symm)

/-- The gap at a component. -/
theorem gap_at (i : Fin 2) : gap e (ix1 i) = e (ix2 1 i) - e (ix2 0 i) :=
  congrArg₂ (fun a b : EReal => a - b) (row_of_two e 1 _ _ 1 rfl i) (row_of_two e 0 _ _ 0 rfl i)

theorem gap0_at : gap0 e ix0 = e (ix2 1 0) - e (ix2 0 0) := by
  refine (shapeCast_dropUnit_apply ![] _ _ _).trans ?_
  refine (extractStridedSlice_apply _ (gap e) _ _ (ix1 0) (fun a => match a with | ⟨0, _⟩ => rfl)).trans (gap_at e 0)

theorem gap1_at : gap1 e ix0 = e (ix2 1 1) - e (ix2 0 1) := by
  refine (shapeCast_dropUnit_apply ![] _ _ _).trans ?_
  refine (extractStridedSlice_apply _ (gap e) _ _ (ix1 1) (fun a => match a with | ⟨0, _⟩ => rfl)).trans (gap_at e 1)

/-- One entry of a two-by-two matrix as a scalar. -/
theorem entry_of_two (o p : Nat) (h : S2x2.Slices ![o, p] S1x1) (h' : S1x1.ShapeCasts S_) (r q : Fin 2) (hr : r.val = o) (hq : q.val = p) :
    shapeCast S_ (extractStridedSlice S1x1 ![o, p] e h) h' ix0 = e (ix2 r q) := by
  refine (shapeCast_apply _ h' _ (ix2 (0 : Fin 1) (0 : Fin 1)) ?_).trans ?_
  · rw [Shape.rowMajor_val_two]
    have hlt := (S_.rowMajor ix0).isLt
    exact (Nat.lt_one_iff.mp hlt).symm
  · exact extractStridedSlice_apply _ e h _ _ (fun a => match a with
      | ⟨0, _⟩ => hr
      | ⟨1, _⟩ => hq)

theorem base0_at : base0 e ix0 = e (ix2 0 0) := entry_of_two e 0 0 _ _ 0 0 rfl rfl

theorem base1_at : base1 e ix0 = e (ix2 0 1) := entry_of_two e 0 1 _ _ 0 1 rfl rfl

/-- One row of a ten-row matrix as a vector. -/
theorem row_of_ten {n : Nat} (o : Nat) (W : (⟨2, ![10, n]⟩ : Shape).Idx → EReal) (h : (⟨2, ![10, n]⟩ : Shape).Slices ![o, 0] ⟨2, ![1, n]⟩)
    (h' : (⟨2, ![1, n]⟩ : Shape).ShapeCasts ⟨1, ![n]⟩) (r : Fin 10) (hr : r.val = o) (j : Fin n) :
    shapeCast (⟨1, ![n]⟩ : Shape) (extractStridedSlice (⟨2, ![1, n]⟩ : Shape) ![o, 0] W h) h' (ix1 j) = W (ix2 r j) := by
  refine (shapeCast_apply _ h' _ (ix2 (0 : Fin 1) j) ?_).trans ?_
  · rw [Shape.rowMajor_val_two, Shape.rowMajor_val_one]
    exact (congrArg (· + j.val) (Nat.zero_mul n)).trans (Nat.zero_add _)
  · exact extractStridedSlice_apply _ W h _ _ (fun a => match a with
      | ⟨0, _⟩ => hr
      | ⟨1, _⟩ => (Nat.zero_add _).symm)

/-- A scalar spread over a vector. -/
theorem scalar_spread {n : Nat} (h : S_.BroadcastsInDim (⟨1, ![n]⟩ : Shape) ![]) (x : S_.Idx → EReal) (j : Fin n) :
    broadcastInDim (⟨1, ![n]⟩ : Shape) ![] h x (ix1 j) = x ix0 :=
  broadcastInDim_apply _ h x _ _ (fun a => a.elim0)

/-- A vector as one row. -/
theorem as_row {n : Nat} (hn : n ≠ 1) (h : (⟨1, ![n]⟩ : Shape).BroadcastsInDim (⟨2, ![1, n]⟩ : Shape) ![1]) (x : (⟨1, ![n]⟩ : Shape).Idx → EReal)
    (i : Fin 1) (j : Fin n) : broadcastInDim (⟨2, ![1, n]⟩ : Shape) ![1] h x (ix2 i j) = x (ix1 j) :=
  broadcastInDim_apply _ h x _ _ (fun a => match a with | ⟨0, _⟩ => (if_neg hn).symm)

/-- A vector as one column. -/
theorem as_column {n : Nat} (hn : n ≠ 1) (h : (⟨1, ![n]⟩ : Shape).BroadcastsInDim (⟨2, ![n, 1]⟩ : Shape) ![0]) (x : (⟨1, ![n]⟩ : Shape).Idx → EReal)
    (j : Fin n) (i : Fin 1) : broadcastInDim (⟨2, ![n, 1]⟩ : Shape) ![0] h x (ix2 j i) = x (ix1 j) :=
  broadcastInDim_apply _ h x _ _ (fun a => match a with | ⟨0, _⟩ => (if_neg hn).symm)

/-- The state's weight at a column. -/
theorem slope_10_at (W : FVec Ideal S10x10 .f32) (j : Fin 10) :
    slope_10 e W (ix1 j) = (e (ix2 1 0) - e (ix2 0 0)) * W (ix2 8 j) + (e (ix2 1 1) - e (ix2 0 1)) * W (ix2 9 j) :=
  congrArg₂ (fun a b : EReal => a + b)
    (congrArg₂ (fun a b : EReal => a * b) ((scalar_spread _ _ j).trans (gap0_at e)) (row_of_ten 8 W _ _ 8 rfl j))
    (congrArg₂ (fun a b : EReal => a * b) ((scalar_spread _ _ j).trans (gap1_at e)) (row_of_ten 9 W _ _ 9 rfl j))

/-- The constant term at a column. -/
theorem offset_10_at (W : FVec Ideal S10x10 .f32) (b : FVec Ideal S10 .f32) (j : Fin 10) :
    offset_10 e W b (ix1 j) = e (ix2 0 0) * W (ix2 8 j) + e (ix2 0 1) * W (ix2 9 j) + b (ix1 j) :=
  congrArg (fun a : EReal => a + b (ix1 j)) (congrArg₂ (fun a b : EReal => a + b)
    (congrArg₂ (fun a b : EReal => a * b) ((scalar_spread _ _ j).trans (base0_at e)) (row_of_ten 8 W _ _ 8 rfl j))
    (congrArg₂ (fun a b : EReal => a * b) ((scalar_spread _ _ j).trans (base1_at e)) (row_of_ten 9 W _ _ 9 rfl j)))

/-- The folded matrix of 10 columns is the spec's. -/
theorem packed_10_at (W : FVec Ideal S10x10 .f32) (b : FVec Ideal S10 .f32) (k : Fin 10) (j : Fin 10) :
    packed_10 e W b (ix2 k j) = folded (fun k j => W (ix2 k j)) (fun j => b (ix1 j)) (fun a b => e (ix2 a b)) k j := by
  unfold folded
  by_cases h : k.val < 8
  · rw [if_pos h]
    refine (three_first _ _ _ _ k j (⟨k.val, h⟩ : Fin 8) rfl).trans ?_
    exact extractStridedSlice_apply _ W _ _ (ix2 k j) (fun a => match a with
      | ⟨0, _⟩ => (Nat.zero_add _).symm
      | ⟨1, _⟩ => (Nat.zero_add _).symm)
  · rw [if_neg h]
    by_cases h8 : k.val = 8
    · rw [if_pos h8]
      refine (three_second _ _ _ _ k j (0 : Fin 1) h8.symm).trans ?_
      exact (as_row (by decide) _ _ 0 j).trans (slope_10_at e W j)
    · rw [if_neg h8]
      refine (three_third _ _ _ _ k j (0 : Fin 1) ?_).trans ?_
      · have := k.isLt
        show 8 + 1 + 0 = k.val
        omega
      · exact (as_row (by decide) _ _ 0 j).trans (offset_10_at e W b j)

/-- The state's weight at a column. -/
theorem slope_128_at (W : FVec Ideal S10x128 .f32) (j : Fin 128) :
    slope_128 e W (ix1 j) = (e (ix2 1 0) - e (ix2 0 0)) * W (ix2 8 j) + (e (ix2 1 1) - e (ix2 0 1)) * W (ix2 9 j) :=
  congrArg₂ (fun a b : EReal => a + b)
    (congrArg₂ (fun a b : EReal => a * b) ((scalar_spread _ _ j).trans (gap0_at e)) (row_of_ten 8 W _ _ 8 rfl j))
    (congrArg₂ (fun a b : EReal => a * b) ((scalar_spread _ _ j).trans (gap1_at e)) (row_of_ten 9 W _ _ 9 rfl j))

/-- The constant term at a column. -/
theorem offset_128_at (W : FVec Ideal S10x128 .f32) (b : FVec Ideal S128 .f32) (j : Fin 128) :
    offset_128 e W b (ix1 j) = e (ix2 0 0) * W (ix2 8 j) + e (ix2 0 1) * W (ix2 9 j) + b (ix1 j) :=
  congrArg (fun a : EReal => a + b (ix1 j)) (congrArg₂ (fun a b : EReal => a + b)
    (congrArg₂ (fun a b : EReal => a * b) ((scalar_spread _ _ j).trans (base0_at e)) (row_of_ten 8 W _ _ 8 rfl j))
    (congrArg₂ (fun a b : EReal => a * b) ((scalar_spread _ _ j).trans (base1_at e)) (row_of_ten 9 W _ _ 9 rfl j)))

/-- The folded matrix of 128 columns is the spec's. -/
theorem packed_128_at (W : FVec Ideal S10x128 .f32) (b : FVec Ideal S128 .f32) (k : Fin 10) (j : Fin 128) :
    packed_128 e W b (ix2 k j) = folded (fun k j => W (ix2 k j)) (fun j => b (ix1 j)) (fun a b => e (ix2 a b)) k j := by
  unfold folded
  by_cases h : k.val < 8
  · rw [if_pos h]
    refine (three_first _ _ _ _ k j (⟨k.val, h⟩ : Fin 8) rfl).trans ?_
    exact extractStridedSlice_apply _ W _ _ (ix2 k j) (fun a => match a with
      | ⟨0, _⟩ => (Nat.zero_add _).symm
      | ⟨1, _⟩ => (Nat.zero_add _).symm)
  · rw [if_neg h]
    by_cases h8 : k.val = 8
    · rw [if_pos h8]
      refine (three_second _ _ _ _ k j (0 : Fin 1) h8.symm).trans ?_
      exact (as_row (by decide) _ _ 0 j).trans (slope_128_at e W j)
    · rw [if_neg h8]
      refine (three_third _ _ _ _ k j (0 : Fin 1) ?_).trans ?_
      · have := k.isLt
        show 8 + 1 + 0 = k.val
        omega
      · exact (as_row (by decide) _ _ 0 j).trans (offset_128_at e W b j)

section Weights
variable (W : FVec Ideal S10x10 .f32) (b : FVec Ideal S10 .f32) (Ws : FVec Ideal S10x128 .f32) (bs : FVec Ideal S128 .f32)
    (Wr : FVec Ideal S10x16 .f32)

/-- A join of three along the second axis read in one of its parts. -/
theorem cols_piece {n d : Nat} (xs : List ((s : Shape) × (s.Idx → EReal))) (h : Shape.Concatenates (xs.map (·.1)) (⟨2, ![n, d]⟩ : Shape) 1)
    (p : Nat) (hp : p < xs.length) (a : Nat) (x : (⟨2, ![n, a]⟩ : Shape).Idx → EReal) (hx : xs[p] = ⟨_, x⟩) (pre : Nat)
    (hpre : (((xs.take p).map (·.1)).map fun s => if h : s.rank = 2 then s.size ((1 : Fin 2).cast h.symm) else 0).sum = pre)
    (k : Fin n) (l : Fin d) (l' : Fin a) (hl : pre + l'.val = l.val) :
    concatenate (⟨2, ![n, d]⟩ : Shape) 1 xs h (ix2 k l) = x (ix2 k l') :=
  concatenate_apply_piece (t := (⟨2, ![n, d]⟩ : Shape)) 1 xs h (ix2 k l) p hp _ x hx rfl pre hpre (ix2 k l')
    (fun b hb => match b, hb with | ⟨0, _⟩, _ => rfl | ⟨1, _⟩, hb => absurd rfl hb) hl

theorem weights_first (k : Fin 10) (j : Fin 10) (q : Fin 154) (hq : q.val = 0 + j.val) :
    weights e W b Ws bs Wr (ix2 k q) = folded (fun k j => W (ix2 k j)) (fun j => b (ix1 j)) (fun a b => e (ix2 a b)) k j :=
  (cols_piece (n := 10) (d := 154) [⟨S10x10, packed_10 e W b⟩, ⟨S10x128, packed_128 e Ws bs⟩, ⟨S10x16, Wr⟩] concatenates_S10x10_S10x128_S10x16_S10x154_d1 0 (by simp) 10 (packed_10 e W b) rfl 0 rfl k q j hq.symm).trans
    (packed_10_at e W b k j)

theorem weights_second (k : Fin 10) (j : Fin 128) (q : Fin 154) (hq : q.val = 10 + j.val) :
    weights e W b Ws bs Wr (ix2 k q) = folded (fun k j => Ws (ix2 k j)) (fun j => bs (ix1 j)) (fun a b => e (ix2 a b)) k j :=
  (cols_piece (n := 10) (d := 154) [⟨S10x10, packed_10 e W b⟩, ⟨S10x128, packed_128 e Ws bs⟩, ⟨S10x16, Wr⟩] concatenates_S10x10_S10x128_S10x16_S10x154_d1 1 (by simp) 128 (packed_128 e Ws bs) rfl 10 rfl k q j hq.symm).trans
    (packed_128_at e Ws bs k j)

theorem weights_third (k : Fin 10) (j : Fin 16) (q : Fin 154) (hq : q.val = 138 + j.val) :
    weights e W b Ws bs Wr (ix2 k q) = Wr (ix2 k j) :=
  cols_piece (n := 10) (d := 154) [⟨S10x10, packed_10 e W b⟩, ⟨S10x128, packed_128 e Ws bs⟩, ⟨S10x16, Wr⟩] concatenates_S10x10_S10x128_S10x16_S10x154_d1 2 (by simp) 16 Wr rfl 138 rfl k q j hq.symm

end Weights

/-- The convolution's weights read at row `16 t + k`. -/
theorem kernels_at (W : FVec Ideal S32x16x3 .f32) (j : Fin 32) (k : Fin 16) (t : Fin 3) (q : Fin 48) (hq : q.val = t.val * 16 + k.val) :
    kernels W (ix2 q j) = W (ix3 j k t) := by
  refine (shapeCast_apply (transpose S3x16x32 [2, 1, 0] W transposes_S32x16x3_S3x16x32_2_1_0)
    shapeCasts_S3x16x32_S48x32 (ix2 q j) (ix3 t k j) ?_).trans ?_
  · rw [Shape.rowMajor_val_two, Shape.rowMajor_val_three]
    show (t.val * 16 + k.val) * 32 + j.val = q.val * 32 + j.val
    rw [hq]
  · exact transpose_apply _ W _ _ _ (fun a => match a with
      | ⟨0, _⟩ => rfl
      | ⟨1, _⟩ => rfl
      | ⟨2, _⟩ => rfl)

section Biases
variable (a : FVec Ideal S128 .f32) (b : FVec Ideal S10 .f32) (c : FVec Ideal S16 .f32) (d : FVec Ideal S32 .f32)

/-- The column of biases read in one of its parts. -/
theorem biases_piece (p : Nat) (hp : p < 4) (n : Nat) (x : (⟨1, ![n]⟩ : Shape).Idx → EReal)
    (hx : ([⟨S128, a⟩, ⟨S10, b⟩, ⟨S16, c⟩, ⟨S32, d⟩] : List ((s : Shape) × (s.Idx → EReal)))[p] = ⟨_, x⟩) (pre : Nat)
    (hpre : (((([⟨S128, a⟩, ⟨S10, b⟩, ⟨S16, c⟩, ⟨S32, d⟩] : List ((s : Shape) × (s.Idx → EReal))).take p).map (·.1)).map
      fun s => if h : s.rank = 1 then s.size ((0 : Fin 1).cast h.symm) else 0).sum = pre)
    (q : Fin 186) (j : Fin n) (hq : q.val = pre + j.val) (i : Fin 1) :
    biases a b c d (ix2 q i) = x (ix1 j) := by
  refine (as_column (by decide) _ _ q i).trans ?_
  exact concatenate_apply_piece (t := S186) 0 [⟨S128, a⟩, ⟨S10, b⟩, ⟨S16, c⟩, ⟨S32, d⟩] _ (ix1 q) p hp _ x hx rfl pre hpre (ix1 j)
    (fun b hb => match b, hb with | ⟨0, _⟩, hb => absurd rfl hb) hq.symm

theorem biases_first (q : Fin 186) (j : Fin 128) (hq : q.val = 0 + j.val) (i : Fin 1) : biases a b c d (ix2 q i) = a (ix1 j) :=
  biases_piece a b c d 0 (by decide) 128 a rfl 0 rfl q j hq i

theorem biases_second (q : Fin 186) (j : Fin 10) (hq : q.val = 128 + j.val) (i : Fin 1) : biases a b c d (ix2 q i) = b (ix1 j) :=
  biases_piece a b c d 1 (by decide) 10 b rfl 128 rfl q j hq i

theorem biases_third (q : Fin 186) (j : Fin 16) (hq : q.val = 138 + j.val) (i : Fin 1) : biases a b c d (ix2 q i) = c (ix1 j) :=
  biases_piece a b c d 2 (by decide) 16 c rfl 138 rfl q j hq i

theorem biases_fourth (q : Fin 186) (j : Fin 32) (hq : q.val = 154 + j.val) (i : Fin 1) : biases a b c d (ix2 q i) = d (ix1 j) :=
  biases_piece a b c d 3 (by decide) 32 d rfl 154 rfl q j hq i

end Biases

end Cert.KernelIdeal.Net

end
-- ==== Proof.Array.lean ====
/-
  What the result array holds after the run: at batch row `b`, channel `c` and node `l`, the network with folded first-layer
  weights on row `b` of the arguments.
-/
module

public import proofs.«01_k».proof.Proof.Gen.KernelIdeal.Value
public import proofs.«01_k».proof.Proof.Block
public import proofs.«01_k».proof.Proof.HostRead

@[expose] public section

noncomputable section

namespace Cert.KernelIdeal.Net

open Cert.KernelIdeal Cert.KernelIdeal.Gen Idealize.ShloMosaic Idealize.ShloMosaic.TcCoe Idealize.ShloMosaic.ValueIdx Cert.Chain Cert.Mat
open Idealize.SL.Sem
open Idealize.ShloMosaic.Pipeline (Dat)

/-- The first layer the kernel computes for batch row `i`: both products use the folded weights. -/
def first (a0 : FVec Ideal S16x4096x8 .f32) (a1 : IVec S16x4096 32) (a2 : FVec Ideal S2x2 .f32) (a3 : FVec Ideal S10x10 .f32)
    (a4 : FVec Ideal S10 .f32) (a5 a6 : FVec Ideal S10x128 .f32) (a7 : FVec Ideal S128 .f32) (i : Fin 16) : Rows 128 := fun l j =>
  lin (feats (fun l k => a0 (ix3 i l k)) (fun l => (((a1 (ix2 i l)).toInt : ℝ) : EReal)))
      (folded (fun k j => a5 (ix2 k j)) (fun j => a7 (ix1 j)) (fun a b => a2 (ix2 a b))) l j
    + lin (prev (relu (lin (feats (fun l k => a0 (ix3 i l k)) (fun l => (((a1 (ix2 i l)).toInt : ℝ) : EReal)))
        (folded (fun k j => a3 (ix2 k j)) (fun j => a4 (ix1 j)) (fun a b => a2 (ix2 a b)))))) (fun k j => a6 (ix2 k j)) l j

/-- What follows the first layer, with the arguments' own weights. -/
def rest (h : Rows 128) (a8 : FVec Ideal S128x128 .f32) (a9 : FVec Ideal S128 .f32)
    (a10 a11 : FVec Ideal S128x10 .f32) (a12 : FVec Ideal S10 .f32) (a13 : FVec Ideal S10x16 .f32) (a14 : FVec Ideal S16 .f32)
    (a15 : FVec Ideal S32x16x3 .f32) (a16 : FVec Ideal S32 .f32) (c : Fin 32) (l : Fin 4094) : EReal :=
  tail h (fun k j => a8 (ix2 k j)) (fun j => a9 (ix1 j)) (fun k j => a10 (ix2 k j)) (fun k j => a11 (ix2 k j)) (fun j => a12 (ix1 j))
    (fun k j => a13 (ix2 k j)) (fun j => a14 (ix1 j)) (fun j k t => a15 (ix3 j k t)) (fun j => a16 (ix1 j)) c l

/-- A block's network when the blocks read as the arguments do. -/
theorem net_eq (x0 : Vec Ideal S8x8x4096 .bf16) (x1 : Vec Ideal S8x1x4096 .i32) (x2 : Vec Ideal S10x154 .bf16) (x3 : Vec Ideal S10x128 .f32)
    (x4 : Vec Ideal S128x128 .f32) (x5 : Vec Ideal S256x10 .f32) (x6 : Vec Ideal S48x32 .bf16) (x7 : Vec Ideal S186x1 .f32)
    (a0 : FVec Ideal S16x4096x8 .f32) (a1 : IVec S16x4096 32) (a2 : FVec Ideal S2x2 .f32) (a3 : FVec Ideal S10x10 .f32)
    (a4 : FVec Ideal S10 .f32) (a5 a6 : FVec Ideal S10x128 .f32) (a7 : FVec Ideal S128 .f32) (a8 : FVec Ideal S128x128 .f32)
    (a9 : FVec Ideal S128 .f32) (a10 a11 : FVec Ideal S128x10 .f32) (a12 : FVec Ideal S10 .f32) (a13 : FVec Ideal S10x16 .f32)
    (a14 : FVec Ideal S16 .f32) (a15 : FVec Ideal S32x16x3 .f32) (a16 : FVec Ideal S32 .f32) (i : Fin 8) (b : Fin 16)
    (h0 : ∀ k l, x0 (ix3 i k l) = a0 (ix3 b l k)) (h1 : ∀ l, x1 (ix3 i 0 l) = a1 (ix2 b l))
    (h2 : x2 = weights a2 a3 a4 a5 a7 a13) (h3 : x3 = a6) (h4 : x4 = a8)
    (h5 : x5 = concatenate S256x10 0 [⟨S128x10, a10⟩, ⟨S128x10, a11⟩] concatenates_S128x10_S128x10_S256x10_d0)
    (h6 : x6 = kernels a15) (h7 : x7 = biases a9 a12 a14 a16) (c : Fin 32) (l : Fin 4094) :
    net x0 x1 x2 x3 x4 x5 x6 x7 i c l
      = rest (first a0 a1 a2 a3 a4 a5 a6 a7 b) a8 a9 a10 a11 a12 a13 a14 a15 a16 c l := by
  subst h2 h3 h4 h5 h6 h7
  unfold net rest first
  simp only [h0, h1]
  have e1 : (fun (k : Fin 10) (j : Fin 10) => weights a2 a3 a4 a5 a7 a13 (ix2 k ⟨0 + j.val, by have := j.isLt; omega⟩))
      = folded (fun k j => a3 (ix2 k j)) (fun j => a4 (ix1 j)) (fun a b => a2 (ix2 a b)) :=
    funext fun k => funext fun j => weights_first a2 a3 a4 a5 a7 a13 k j _ rfl
  have e2 : (fun (k : Fin 10) (j : Fin 128) => weights a2 a3 a4 a5 a7 a13 (ix2 k ⟨10 + j.val, by have := j.isLt; omega⟩))
      = folded (fun k j => a5 (ix2 k j)) (fun j => a7 (ix1 j)) (fun a b => a2 (ix2 a b)) :=
    funext fun k => funext fun j => weights_second a2 a3 a4 a5 a7 a13 k j _ rfl
  have e3 : (fun (k : Fin 10) (j : Fin 16) => weights a2 a3 a4 a5 a7 a13 (ix2 k ⟨138 + j.val, by have := j.isLt; omega⟩))
      = fun k j => a13 (ix2 k j) :=
    funext fun k => funext fun j => weights_third a2 a3 a4 a5 a7 a13 k j _ rfl
  have e4 : (fun (k : Fin 128) (j : Fin 10) => concatenate S256x10 0 [⟨S128x10, a10⟩, ⟨S128x10, a11⟩]
      concatenates_S128x10_S128x10_S256x10_d0 (ix2 (Fin.castAdd 128 k) j)) = fun k j => a10 (ix2 k j) :=
    funext fun k => funext fun j => rows_top a10 a11 _ (Fin.castAdd 128 k) j k.isLt
  have e5 : (fun (k : Fin 128) (j : Fin 10) => concatenate S256x10 0 [⟨S128x10, a10⟩, ⟨S128x10, a11⟩]
      concatenates_S128x10_S128x10_S256x10_d0 (ix2 (Fin.natAdd 128 k) j)) = fun k j => a11 (ix2 k j) :=
    funext fun k => funext fun j => rows_bottom a10 a11 _ (Fin.natAdd 128 k) j k (Nat.add_comm _ _)
  have e6 : (fun (j : Fin 32) (k : Fin 16) (t : Fin 3) => kernels a15 (ix2 ⟨t.val * 16 + k.val, by have := t.isLt; have := k.isLt; omega⟩ j))
      = fun j k t => a15 (ix3 j k t) :=
    funext fun j => funext fun k => funext fun t => kernels_at a15 j k t _ rfl
  have e7 : (fun j : Fin 128 => biases a9 a12 a14 a16 (ix2 ⟨0 + j.val, by have := j.isLt; omega⟩ 0)) = fun j => a9 (ix1 j) :=
    funext fun j => biases_first a9 a12 a14 a16 _ j rfl 0
  have e8 : (fun j : Fin 10 => biases a9 a12 a14 a16 (ix2 ⟨128 + j.val, by have := j.isLt; omega⟩ 0)) = fun j => a12 (ix1 j) :=
    funext fun j => biases_second a9 a12 a14 a16 _ j rfl 0
  have e9 : (fun j : Fin 16 => biases a9 a12 a14 a16 (ix2 ⟨138 + j.val, by have := j.isLt; omega⟩ 0)) = fun j => a14 (ix1 j) :=
    funext fun j => biases_third a9 a12 a14 a16 _ j rfl 0
  have e10 : (fun j : Fin 32 => biases a9 a12 a14 a16 (ix2 ⟨154 + j.val, by have := j.isLt; omega⟩ 0)) = fun j => a16 (ix1 j) :=
    funext fun j => biases_fourth a9 a12 a14 a16 _ j rfl 0
  rw [e1, e2, e3, e4, e5, e6, e7, e8, e9, e10]

section Windows
variable (m : (ℓ : Loc nD τ sig) → Buf (Elt Ideal) ℓ) (c : Dev nD)

/-- The moving windows' block index at a point: the point on the batch axis, zero elsewhere. -/
theorem moving_index : ∀ t : Fin grid0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_8.index t (0 : Fin 3) = t.val ∧ win0_8.index t (1 : Fin 3) = 0 ∧ win0_8.index t (2 : Fin 3) = 0) := by decide +kernel

/-- The still windows' block index is zero at every point. -/
theorem still_index : ∀ t : Fin grid0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0) := by
  decide +kernel

/-- The batch row that row `i` of point `t`'s block is. -/
def batch (t : Fin grid0.N) (i : Fin 8) : Fin 16 := ⟨t.val * 8 + i.val, by have h := t.isLt; have h' := N_0; have := i.isLt; omega⟩

/-- A matrix given a middle axis of one, read at an element. -/
theorem middle_unit (x : IVec S16x4096 32) (b : Fin 16) (l : Fin 4096) :
    shapeCast S16x1x4096 x shapeCasts_S16x4096_S16x1x4096 (ix3 b 0 l) = x (ix2 b l) := by
  refine shapeCast_apply x shapeCasts_S16x4096_S16x1x4096 (ix3 b 0 l) (ix2 b l) ?_
  rw [Shape.rowMajor_val_two, Shape.rowMajor_val_three]
  show b.val * 4096 + l.val = (b.val * 1 + 0) * 4096 + l.val
  omega

theorem block0 (t : Fin cfg0.N) (i : Fin 8) (k : Fin 8) (l : Fin 4096) :
    iblk m c 0 t (ix3 i k l) = (m ((c : Thread nD τ).loc main_arg0) : FVec Ideal S16x4096x8 .f32) (ix3 (batch t i) l k) := by
  have h := (moving_index t).1
  show V m c main_v1 (((cfg0.win 0).blk t).view.emb (ix3 i k l)) = _
  have e : ((cfg0.win 0).blk t).view.emb (ix3 i k l) = ix3 (batch t i) k l := by
    funext a; apply Fin.ext
    match a with
    | ⟨0, _⟩ => show win0_0.index t (0 : Fin 3) * 8 + 1 * i.val = t.val * 8 + i.val; omega
    | ⟨1, _⟩ => show win0_0.index t (1 : Fin 3) * 8 + 1 * k.val = k.val; omega
    | ⟨2, _⟩ => show win0_0.index t (2 : Fin 3) * 4096 + 1 * l.val = l.val; omega
  rw [e]
  refine (congrFun (V_coords m c) _).trans ?_
  exact transpose_apply [0, 2, 1] (m ((c : Thread nD τ).loc main_arg0) : FVec Ideal S16x4096x8 .f32) transposes_S16x4096x8_S16x8x4096_0_2_1
    (ix3 (batch t i) k l) (ix3 (batch t i) l k) (fun a => match a with
      | ⟨0, _⟩ => rfl
      | ⟨1, _⟩ => rfl
      | ⟨2, _⟩ => rfl)

theorem block1 (t : Fin cfg0.N) (i : Fin 8) (l : Fin 4096) :
    iblk m c 1 t (ix3 i 0 l) = (m ((c : Thread nD τ).loc main_arg1) : IVec S16x4096 32) (ix2 (batch t i) l) := by
  have h := (moving_index t).2.1
  show V m c main_v2 (((cfg0.win 1).blk t).view.emb (ix3 i 0 l)) = _
  have e : ((cfg0.win 1).blk t).view.emb (ix3 i 0 l) = ix3 (batch t i) 0 l := by
    funext a; apply Fin.ext
    match a with
    | ⟨0, _⟩ => show win0_1.index t (0 : Fin 3) * 8 + 1 * i.val = t.val * 8 + i.val; omega
    | ⟨1, _⟩ => show win0_1.index t (1 : Fin 3) * 1 + 1 * 0 = 0; omega
    | ⟨2, _⟩ => show win0_1.index t (2 : Fin 3) * 4096 + 1 * l.val = l.val; omega
  rw [e]
  refine (congrFun (V_states m c) _).trans ?_
  exact middle_unit _ (batch t i) l

theorem block2 (t : Fin cfg0.N) : iblk m c 2 t = V m c main_v76 := by
  have h := (still_index t).1
  funext j
  show V m c main_v76 (((cfg0.win 2).blk t).view.emb j) = V m c main_v76 j
  have e : ((cfg0.win 2).blk t).view.emb j = j := by
    funext a; apply Fin.ext
    match a with
    | ⟨0, _⟩ => show win0_2.index t (0 : Fin 2) * 10 + 1 * (j 0).val = (j 0).val; omega
    | ⟨1, _⟩ => show win0_2.index t (1 : Fin 2) * 154 + 1 * (j 1).val = (j 1).val; omega
  rw [e]

theorem block3 (t : Fin cfg0.N) : iblk m c 3 t = V m c main_arg6 := by
  have h := (still_index t).2.1
  funext j
  show V m c main_arg6 (((cfg0.win 3).blk t).view.emb j) = V m c main_arg6 j
  have e : ((cfg0.win 3).blk t).view.emb j = j := by
    funext a; apply Fin.ext
    match a with
    | ⟨0, _⟩ => show win0_3.index t (0 : Fin 2) * 10 + 1 * (j 0).val = (j 0).val; omega
    | ⟨1, _⟩ => show win0_3.index t (1 : Fin 2) * 128 + 1 * (j 1).val = (j 1).val; omega
  rw [e]

theorem block4 (t : Fin cfg0.N) : iblk m c 4 t = V m c main_arg8 := by
  have h := (still_index t).2.2.1
  funext j
  show V m c main_arg8 (((cfg0.win 4).blk t).view.emb j) = V m c main_arg8 j
  have e : ((cfg0.win 4).blk t).view.emb j = j := by
    funext a; apply Fin.ext
    match a with
    | ⟨0, _⟩ => show win0_4.index t (0 : Fin 2) * 128 + 1 * (j 0).val = (j 0).val; omega
    | ⟨1, _⟩ => show win0_4.index t (1 : Fin 2) * 128 + 1 * (j 1).val = (j 1).val; omega
  rw [e]

theorem block5 (t : Fin cfg0.N) : iblk m c 5 t = V m c main_v77 := by
  have h := (still_index t).2.2.2.1
  funext j
  show V m c main_v77 (((cfg0.win 5).blk t).view.emb j) = V m c main_v77 j
  have e : ((cfg0.win 5).blk t).view.emb j = j := by
    funext a; apply Fin.ext
    match a with
    | ⟨0, _⟩ => show win0_5.index t (0 : Fin 2) * 256 + 1 * (j 0).val = (j 0).val; omega
    | ⟨1, _⟩ => show win0_5.index t (1 : Fin 2) * 10 + 1 * (j 1).val = (j 1).val; omega
  rw [e]

theorem block6 (t : Fin cfg0.N) : iblk m c 6 t = V m c main_v80 := by
  have h := (still_index t).2.2.2.2.1
  funext j
  show V m c main_v80 (((cfg0.win 6).blk t).view.emb j) = V m c main_v80 j
  have e : ((cfg0.win 6).blk t).view.emb j = j := by
    funext a; apply Fin.ext
    match a with
    | ⟨0, _⟩ => show win0_6.index t (0 : Fin 2) * 48 + 1 * (j 0).val = (j 0).val; omega
    | ⟨1, _⟩ => show win0_6.index t (1 : Fin 2) * 32 + 1 * (j 1).val = (j 1).val; omega
  rw [e]

theorem block7 (t : Fin cfg0.N) : iblk m c 7 t = V m c main_v82 := by
  have h := (still_index t).2.2.2.2.2
  funext j
  show V m c main_v82 (((cfg0.win 7).blk t).view.emb j) = V m c main_v82 j
  have e : ((cfg0.win 7).blk t).view.emb j = j := by
    funext a; apply Fin.ext
    match a with
    | ⟨0, _⟩ => show win0_7.index t (0 : Fin 2) * 186 + 1 * (j 0).val = (j 0).val; omega
    | ⟨1, _⟩ => show win0_7.index t (1 : Fin 2) * 1 + 1 * (j 1).val = (j 1).val; omega
  rw [e]

/-- The result array the kernel leaves on device `c`. -/
def answer : FVec Ideal S16x32x4094 .f32 := fun y =>
  rest (first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (y 0))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (y 1) (y 2)

/-- Where an element of point `t`'s output block lies in the array. -/
theorem emb8 (t : Fin cfg0.N) (i : Fin 8) (j : Fin 32) (l : Fin 4094) :
    ((cfg0.win 8).blk t).view.emb (ix3 i j l) = ix3 (batch t i) j l := by
  have h := (moving_index t).2.2
  funext a; apply Fin.ext
  match a with
  | ⟨0, _⟩ => show win0_8.index t (0 : Fin 3) * 8 + 1 * i.val = t.val * 8 + i.val; omega
  | ⟨1, _⟩ => show win0_8.index t (1 : Fin 3) * 32 + 1 * j.val = j.val; omega
  | ⟨2, _⟩ => show win0_8.index t (2 : Fin 3) * 4094 + 1 * l.val = l.val; omega

/-- What point `t` writes back is its block of the answer. -/
theorem flushed_answer (t : Fin cfg0.N) :
    (dats m 0 c).flushed 8 t = ((cfg0.win 8).blk t).view.read (Elt Ideal) (answer m c) := by
  rw [Value.flushed8]
  funext y
  obtain ⟨i, j, l, rfl⟩ : ∃ (i : Fin 8) (j : Fin 32) (l : Fin 4094), y = ix3 i j l := ⟨y 0, y 1, y 2, eq_ix3 y⟩
  show out0_8 (iblk m c 0 t) (iblk m c 1 t) (iblk m c 2 t) (iblk m c 3 t) (iblk m c 4 t) (iblk m c 5 t) (iblk m c 6 t) (iblk m c 7 t) (ix3 i j l)
    = answer m c (((cfg0.win 8).blk t).view.emb (ix3 i j l))
  rw [emb8]
  refine (out_at _ _ _ _ _ _ _ _ i j l).trans ?_
  exact net_eq _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    i (batch t i) (block0 m c t i) (block1 m c t i) ((block2 m c t).trans (V_weights m c)) ((block3 m c t).trans (V_main_arg6 m c))
    ((block4 m c t).trans (V_main_arg8 m c)) ((block5 m c t).trans (V_second m c)) ((block6 m c t).trans (V_kernels m c))
    ((block7 m c t).trans (V_biases m c)) j l

/-- Every element of the array is in some point's block. -/
theorem covered (y : S16x32x4094.Idx) :
    ∃ t : Fin cfg0.N, (cfg0.win 8).flush t = true ∧ y ∈ ((cfg0.win 8).blk t).view.set := by
  obtain ⟨b, j, l, rfl⟩ : ∃ (b : Fin 16) (j : Fin 32) (l : Fin 4094), y = ix3 b j l := ⟨y 0, y 1, y 2, eq_ix3 y⟩
  have hb := b.isLt
  have hN : cfg0.N = 2 := N_0
  have ht : b.val / 8 < cfg0.N := by rw [hN]; omega
  refine ⟨⟨b.val / 8, ht⟩, flush0_8 _, ?_⟩
  have h := ((cfg0.win 8).blk ⟨b.val / 8, ht⟩).view.emb_mem_set (ix3 (⟨b.val % 8, by omega⟩ : Fin 8) j l)
  rw [emb8] at h
  have e : batch ⟨b.val / 8, ht⟩ (⟨b.val % 8, by omega⟩ : Fin 8) = b := Fin.ext (by show b.val / 8 * 8 + b.val % 8 = b.val; omega)
  rw [e] at h
  exact h

/-- The array after the run is the answer. -/
theorem final : (dats m 0 c).arrAt 8 cfg0.N = answer m c :=
  (dats m 0 c).arrAt_eq_of_cover 8 (answer m c) (fun t _ => flushed_answer m c t) covered

end Windows

end Cert.KernelIdeal.Net

end
-- ==== Proof.Reference.lean ====
/-
  What the reference computes: at batch row `b`, channel `c` and node `l`, the network with the embedding's rows taken by state.
-/
module

public import proofs.«01_k».proof.Proof.Take
public import proofs.«01_k».proof.Proof.Spec
public import Idealize.ShloMosaic.Lib.IdealHost

@[expose] public section

noncomputable section

namespace Cert.ReferenceIdeal.Net

open Cert.ReferenceIdeal Cert.ReferenceIdeal.Gen Cert.ReferenceIdeal.Read Idealize.ShloMosaic Idealize.ShloMosaic.ValueIdx Cert.Chain
open scoped BigOperators

/-- An array of two axes as a function of its two coordinates. -/
abbrev mat {m n : Nat} (x : (⟨2, ![m, n]⟩ : Shape).Idx → EReal) : Fin m → Fin n → EReal := fun k j => x (ix2 k j)

/-- An array of one axis as a function of its coordinate. -/
abbrev vec {n : Nat} (x : (⟨1, ![n]⟩ : Shape).Idx → EReal) : Fin n → EReal := fun j => x (ix1 j)

/-- A join along the last of three axes read in its first part. -/
theorem last_left {m n a b c : Nat} (x : (⟨3, ![m, n, a]⟩ : Shape).Idx → EReal) (y : (⟨3, ![m, n, b]⟩ : Shape).Idx → EReal)
    (h : Shape.Concatenates [⟨3, ![m, n, a]⟩, ⟨3, ![m, n, b]⟩] (⟨3, ![m, n, c]⟩ : Shape) 2) (i : Fin m) (l : Fin n) (k : Fin c)
    (hk : k.val < a) :
    concatenate (⟨3, ![m, n, c]⟩ : Shape) 2 [⟨_, x⟩, ⟨_, y⟩] h (ix3 i l k) = x (ix3 i l ⟨k.val, hk⟩) :=
  concatenate_pair_apply_left _ x y h _ rfl _ (fun b => match b with | ⟨0, _⟩ => rfl | ⟨1, _⟩ => rfl | ⟨2, _⟩ => rfl)

/-- A join along the last of three axes read in its second part. -/
theorem last_right {m n a b c : Nat} (x : (⟨3, ![m, n, a]⟩ : Shape).Idx → EReal) (y : (⟨3, ![m, n, b]⟩ : Shape).Idx → EReal)
    (h : Shape.Concatenates [⟨3, ![m, n, a]⟩, ⟨3, ![m, n, b]⟩] (⟨3, ![m, n, c]⟩ : Shape) 2) (i : Fin m) (l : Fin n) (k : Fin c)
    (k' : Fin b) (hk : k'.val + a = k.val) :
    concatenate (⟨3, ![m, n, c]⟩ : Shape) 2 [⟨_, x⟩, ⟨_, y⟩] h (ix3 i l k) = y (ix3 i l k') :=
  concatenate_pair_apply_right _ x y h _ rfl rfl _
    (fun b hb => match b, hb with | ⟨0, _⟩, _ => rfl | ⟨1, _⟩, _ => rfl | ⟨2, _⟩, hb => absurd rfl hb) hk

/-- A row of zeros put before all nodes but the last gives each node its predecessor's numbers. -/
theorem shifted_at {n : Nat} (z : (⟨3, ![16, 1, n]⟩ : Shape).Idx → EReal) (y : (⟨3, ![16, 4095, n]⟩ : Shape).Idx → EReal)
    (h : Shape.Concatenates [⟨3, ![16, 1, n]⟩, ⟨3, ![16, 4095, n]⟩] (⟨3, ![16, 4096, n]⟩ : Shape) 1) (hz : ∀ i, z i = 0)
    (x : Rows n) (b : Fin 16)
    (hy : ∀ (l : Fin 4095) (j : Fin n), y (ix3 b l j) = x ⟨l.val, by have := l.isLt; omega⟩ j) (l : Fin 4096) (j : Fin n) :
    concatenate (⟨3, ![16, 4096, n]⟩ : Shape) 1 [⟨_, z⟩, ⟨_, y⟩] h (ix3 b l j) = prev x l j := by
  unfold prev
  have hl := l.isLt
  by_cases h0 : l.val = 0
  · rw [if_pos h0]
    exact (concatenate_pair_apply_left _ z y h (ix3 b l j) rfl (ix3 b 0 j) (fun a => match a with
      | ⟨0, _⟩ => rfl | ⟨1, _⟩ => h0.symm | ⟨2, _⟩ => rfl)).trans (hz _)
  · rw [if_neg h0]
    exact (concatenate_pair_apply_right _ z y h _ rfl rfl (ix3 b ⟨l.val - 1, by omega⟩ j)
      (fun a ha => match a, ha with | ⟨0, _⟩, _ => rfl | ⟨1, _⟩, ha => absurd rfl ha | ⟨2, _⟩, _ => rfl)
      (by show l.val - 1 + 1 = l.val; omega)).trans (hy _ _)

/-- The unit as the reference writes it: where the number is positive the number, elsewhere one times the exponential less
    one of the number. -/
theorem elu_eq (y : EReal) :
    Scalar.select (FloatOps.cmpf (F := Ideal) (φ := .f32) .ogt y (FloatOps.ofBits (F := Ideal) .f32 0x00000000#32)) y
      (FloatOps.mulf (F := Ideal) (φ := .f32) (FloatOps.ofBits (F := Ideal) .f32 0x3F800000#32)
        (FloatOps.hostUnary (F := Ideal) (φ := .f32) .expm1
          (Scalar.select (FloatOps.cmpf (F := Ideal) (φ := .f32) .ogt y (FloatOps.ofBits (F := Ideal) .f32 0x00000000#32))
            (FloatOps.ofBits (F := Ideal) .f32 0x00000000#32) y)))
      = elu y := by
  have h0 : FloatOps.ofBits (F := Ideal) .f32 0x00000000#32 = (0 : EReal) := Ideal.ofBits_zero_f32
  have h1 : FloatOps.ofBits (F := Ideal) .f32 0x3F800000#32 = (1 : EReal) := Ideal.ofBits_one_f32
  rw [h0, h1]
  unfold elu
  by_cases hy : (0 : EReal) < y
  · have hc : FloatOps.cmpf (F := Ideal) (φ := .f32) .ogt y (0 : EReal) = 1#1 := congrArg BitVec.ofBool (decide_eq_true hy)
    rw [hc, if_pos hy]; rfl
  · have hc : FloatOps.cmpf (F := Ideal) (φ := .f32) .ogt y (0 : EReal) = 0#1 := congrArg BitVec.ofBool (decide_eq_false hy)
    rw [hc, if_neg hy]
    exact one_mul (Ideal.exp y - 1)

variable {x1 : IVec S16x4096 32} {s : Fin 16 → Fin 4096 → Fin 2}
variable (x0 : FVec Ideal S16x4096x8 .f32) (x2 : FVec Ideal S2x2 .f32) (x3 : FVec Ideal S10x10 .f32) (x4 : FVec Ideal S10 .f32)
  (x5 x6 : FVec Ideal S10x128 .f32) (x7 : FVec Ideal S128 .f32) (x8 : FVec Ideal S128x128 .f32) (x9 : FVec Ideal S128 .f32)
  (x10 x11 : FVec Ideal S128x10 .f32) (x12 : FVec Ideal S10 .f32) (x13 : FVec Ideal S10x16 .f32) (x14 : FVec Ideal S16 .f32)
  (x15 : FVec Ideal S32x16x3 .f32) (x16 : FVec Ideal S32 .f32)

/-- Batch row `b`'s inputs to the first layer. -/
def inputs (s : Fin 16 → Fin 4096 → Fin 2) (b : Fin 16) : Rows 10 :=
  locs (fun l k => x0 (ix3 b l k)) (s b) (fun a k => x2 (ix2 a k))

/-- Batch row `b`'s first layer. -/
def one (s : Fin 16 → Fin 4096 → Fin 2) (b : Fin 16) : Rows 128 :=
  layer (inputs x0 x2 s b) (mat x3) (vec x4) (mat x5) (mat x6) (vec x7)

/-- Batch row `b`'s second layer. -/
def two (s : Fin 16 → Fin 4096 → Fin 2) (b : Fin 16) : Rows 10 :=
  layer (one x0 x2 x3 x4 x5 x6 x7 s b) (mat x8) (vec x9) (mat x10) (mat x11) (vec x12)

/-- Batch row `b`'s processed rows, the convolution's input. -/
def three (s : Fin 16 → Fin 4096 → Fin 2) (b : Fin 16) : Rows 16 :=
  proc (two x0 x2 x3 x4 x5 x6 x7 x8 x9 x10 x11 x12 s b) (mat x13) (vec x14)

/-- The reference's joined inputs. -/
theorem inputs_at (hs : Codes x1 s) (b : Fin 16) (l : Fin 4096) (k : Fin 10) :
    val_main_v1 (F := Ideal) x0 x1 x2 (ix3 b l k) = inputs x0 x2 s b l k := by
  have hk := k.isLt
  unfold val_main_v1 inputs locs
  by_cases h8 : k.val < 8
  · rw [dif_pos h8]
    exact last_left _ _ concatenates_S16x4096x8_S16x4096x2_S16x4096x10_d2 b l k h8
  · rw [dif_neg h8]
    exact (last_right _ _ concatenates_S16x4096x8_S16x4096x2_S16x4096x10_d2 b l k ⟨k.val - 8, by omega⟩
      (by show k.val - 8 + 8 = k.val; omega)).trans (taken_at hs x2 b l _)

/-- The first layer's pooled product. -/
theorem pool1_dot (hs : Codes x1 s) (b : Fin 16) (l : Fin 4096) (j : Fin 10) :
    val_main_v2 (F := Ideal) x0 x1 x2 x3 (ix3 b l j) = lin (inputs x0 x2 s b) (mat x3) l j := by
  exact (val_main_v2_apply x0 x1 x2 x3 _).trans (Finset.sum_congr rfl fun k _ =>
    congrArg₂ (· * ·) ((congrArg _ (eq_ix3 _)).trans (inputs_at x0 x2 hs b l k)) (congrArg x3 (eq_ix2 _)))

/-- The bias spread over rows and nodes. -/
theorem pool1_bias (b : Fin 16) (l : Fin 4096) (j : Fin 10) :
    val_main_v4 (F := Ideal) x4 (ix3 b l j) = vec x4 j := by
  exact (val_main_v4_apply (F := Ideal) x4 _).trans ((val_main_v3_apply (F := Ideal) x4 _).trans (congrArg x4 (eq_ix1 _)))

/-- The pooled rows: product, bias and the larger of that and zero. -/
theorem pool1_at (hs : Codes x1 s) (b : Fin 16) (l : Fin 4096) (j : Fin 10) :
    val_main_v6 (F := Ideal) x0 x1 x2 x3 x4 (ix3 b l j) = relu (bias (lin (inputs x0 x2 s b) (mat x3)) (vec x4)) l j := by
  rw [val_main_v6_apply, val_main_v5_apply, pool1_dot x0 x2 x3  hs b l j, pool1_bias x4 b l j, val_main_call1_v0_apply,
    val_main_call1_cst_apply]
  exact congrArg (max _) Ideal.ofBits_zero_f32

/-- The pooled rows moved one node on. -/
theorem prev1_at (hs : Codes x1 s) (b : Fin 16) (l : Fin 4096) (j : Fin 10) :
    val_main_v10 (F := Ideal) x0 x1 x2 x3 x4 (ix3 b l j) = prev (relu (bias (lin (inputs x0 x2 s b) (mat x3)) (vec x4))) l j := by
  unfold val_main_v10
  exact shifted_at _ _ concatenates_S16x1x10_S16x4095x10_S16x4096x10_d1
    (fun i => (val_main_v8_apply (F := Ideal) i).trans ((val_main_cst_apply (F := Ideal) _).trans Ideal.ofBits_zero_f32)) _ b
    (fun l' j' => (val_main_v9_apply (F := Ideal) x0 x1 x2 x3 x4 _).trans ((congrArg (val_main_v6 (F := Ideal) x0 x1 x2 x3 x4) (eq_ix3 _)).trans (pool1_at x0 x2 x3 x4 hs b ⟨l'.val, by have := l'.isLt; omega⟩ j'))) l j

/-- The first layer's own part. -/
theorem self1_at (hs : Codes x1 s) (b : Fin 16) (l : Fin 4096) (j : Fin 128) :
    val_main_v11 (F := Ideal) x0 x1 x2 x5 (ix3 b l j) = lin (inputs x0 x2 s b) (mat x5) l j := by
  exact (val_main_v11_apply x0 x1 x2 x5 _).trans (Finset.sum_congr rfl fun k _ =>
    congrArg₂ (· * ·) ((congrArg _ (eq_ix3 _)).trans (inputs_at x0 x2 hs b l k)) (congrArg x5 (eq_ix2 _)))

/-- The first layer's predecessor part. -/
theorem neigh1_at (hs : Codes x1 s) (b : Fin 16) (l : Fin 4096) (j : Fin 128) :
    val_main_v12 (F := Ideal) x0 x1 x2 x3 x4 x6 (ix3 b l j) = lin (prev (relu (bias (lin (inputs x0 x2 s b) (mat x3)) (vec x4)))) (mat x6) l j := by
  exact (val_main_v12_apply x0 x1 x2 x3 x4 x6 _).trans (Finset.sum_congr rfl fun k _ =>
    congrArg₂ (· * ·) ((congrArg _ (eq_ix3 _)).trans (prev1_at x0 x2 x3 x4 hs b l k)) (congrArg x6 (eq_ix2 _)))

/-- The bias spread over rows and nodes. -/
theorem bias1_at (b : Fin 16) (l : Fin 4096) (j : Fin 128) :
    val_main_v15 (F := Ideal) x7 (ix3 b l j) = vec x7 j := by
  exact (val_main_v15_apply (F := Ideal) x7 _).trans ((val_main_v14_apply (F := Ideal) x7 _).trans (congrArg x7 (eq_ix1 _)))

/-- The first layer. -/
theorem one_at (hs : Codes x1 s) (b : Fin 16) (l : Fin 4096) (j : Fin 128) :
    val_main_v16 (F := Ideal) x0 x1 x2 x3 x4 x5 x6 x7 (ix3 b l j) = one x0 x2 x3 x4 x5 x6 x7 s b l j := by
  rw [val_main_v16_apply, val_main_v13_apply, self1_at x0 x2 x5 hs b l j, neigh1_at x0 x2 x3 x4 x6 hs b l j, bias1_at x7 b l j]
  rfl

/-- The second layer's pooled product. -/
theorem pool2_dot (hs : Codes x1 s) (b : Fin 16) (l : Fin 4096) (j : Fin 128) :
    val_main_v17 (F := Ideal) x0 x1 x2 x3 x4 x5 x6 x7 x8 (ix3 b l j) = lin (one x0 x2 x3 x4 x5 x6 x7 s b) (mat x8) l j := by
  exact (val_main_v17_apply x0 x1 x2 x3 x4 x5 x6 x7 x8 _).trans (Finset.sum_congr rfl fun k _ =>
    congrArg₂ (· * ·) ((congrArg _ (eq_ix3 _)).trans (one_at x0 x2 x3 x4 x5 x6 x7 hs b l k)) (congrArg x8 (eq_ix2 _)))

/-- The bias spread over rows and nodes. -/
theorem pool2_bias (b : Fin 16) (l : Fin 4096) (j : Fin 128) :
    val_main_v19 (F := Ideal) x9 (ix3 b l j) = vec x9 j := by
  exact (val_main_v19_apply (F := Ideal) x9 _).trans ((val_main_v18_apply (F := Ideal) x9 _).trans (congrArg x9 (eq_ix1 _)))

/-- The pooled rows: product, bias and the larger of that and zero. -/
theorem pool2_at (hs : Codes x1 s) (b : Fin 16) (l : Fin 4096) (j : Fin 128) :
    val_main_v21 (F := Ideal) x0 x1 x2 x3 x4 x5 x6 x7 x8 x9 (ix3 b l j) = relu (bias (lin (one x0 x2 x3 x4 x5 x6 x7 s b) (mat x8)) (vec x9)) l j := by
  rw [val_main_v21_apply, val_main_v20_apply, pool2_dot x0 x2 x3 x4 x5 x6 x7 x8  hs b l j, pool2_bias x9 b l j, val_main_call2_v0_apply,
    val_main_call2_cst_apply]
  exact congrArg (max _) Ideal.ofBits_zero_f32

/-- The pooled rows moved one node on. -/
theorem prev2_at (hs : Codes x1 s) (b : Fin 16) (l : Fin 4096) (j : Fin 128) :
    val_main_v25 (F := Ideal) x0 x1 x2 x3 x4 x5 x6 x7 x8 x9 (ix3 b l j) = prev (relu (bias (lin (one x0 x2 x3 x4 x5 x6 x7 s b) (mat x8)) (vec x9))) l j := by
  unfold val_main_v25
  exact shifted_at _ _ concatenates_S16x1x128_S16x4095x128_S16x4096x128_d1
    (fun i => (val_main_v23_apply (F := Ideal) i).trans ((val_main_cst_0_apply (F := Ideal) _).trans Ideal.ofBits_zero_f32)) _ b
    (fun l' j' => (val_main_v24_apply (F := Ideal) x0 x1 x2 x3 x4 x5 x6 x7 x8 x9 _).trans ((congrArg (val_main_v21 (F := Ideal) x0 x1 x2 x3 x4 x5 x6 x7 x8 x9) (eq_ix3 _)).trans (pool2_at x0 x2 x3 x4 x5 x6 x7 x8 x9 hs b ⟨l'.val, by have := l'.isLt; omega⟩ j'))) l j

/-- The second layer's own part. -/
theorem self2_at (hs : Codes x1 s) (b : Fin 16) (l : Fin 4096) (j : Fin 10) :
    val_main_v26 (F := Ideal) x0 x1 x2 x3 x4 x5 x6 x7 x10 (ix3 b l j) = lin (one x0 x2 x3 x4 x5 x6 x7 s b) (mat x10) l j := by
  exact (val_main_v26_apply x0 x1 x2 x3 x4 x5 x6 x7 x10 _).trans (Finset.sum_congr rfl fun k _ =>
    congrArg₂ (· * ·) ((congrArg _ (eq_ix3 _)).trans (one_at x0 x2 x3 x4 x5 x6 x7 hs b l k)) (congrArg x10 (eq_ix2 _)))

/-- The second layer's predecessor part. -/
theorem neigh2_at (hs : Codes x1 s) (b : Fin 16) (l : Fin 4096) (j : Fin 10) :
    val_main_v27 (F := Ideal) x0 x1 x2 x3 x4 x5 x6 x7 x8 x9 x11 (ix3 b l j) = lin (prev (relu (bias (lin (one x0 x2 x3 x4 x5 x6 x7 s b) (mat x8)) (vec x9)))) (mat x11) l j := by
  exact (val_main_v27_apply x0 x1 x2 x3 x4 x5 x6 x7 x8 x9 x11 _).trans (Finset.sum_congr rfl fun k _ =>
    congrArg₂ (· * ·) ((congrArg _ (eq_ix3 _)).trans (prev2_at x0 x2 x3 x4 x5 x6 x7 x8 x9 hs b l k)) (congrArg x11 (eq_ix2 _)))

/-- The bias spread over rows and nodes. -/
theorem bias2_at (b : Fin 16) (l : Fin 4096) (j : Fin 10) :
    val_main_v30 (F := Ideal) x12 (ix3 b l j) = vec x12 j := by
  exact (val_main_v30_apply (F := Ideal) x12 _).trans ((val_main_v29_apply (F := Ideal) x12 _).trans (congrArg x12 (eq_ix1 _)))

/-- The second layer. -/
theorem two_at (hs : Codes x1 s) (b : Fin 16) (l : Fin 4096) (j : Fin 10) :
    val_main_v31 (F := Ideal) x0 x1 x2 x3 x4 x5 x6 x7 x8 x9 x10 x11 x12 (ix3 b l j) = two x0 x2 x3 x4 x5 x6 x7 x8 x9 x10 x11 x12 s b l j := by
  rw [val_main_v31_apply, val_main_v28_apply, self2_at x0 x2 x3 x4 x5 x6 x7 x10 hs b l j, neigh2_at x0 x2 x3 x4 x5 x6 x7 x8 x9 x11 hs b l j, bias2_at x12 b l j]
  rfl

/-- The processing layer's product. -/
theorem proc_dot (hs : Codes x1 s) (b : Fin 16) (l : Fin 4096) (j : Fin 16) :
    val_main_v32 (F := Ideal) x0 x1 x2 x3 x4 x5 x6 x7 x8 x9 x10 x11 x12 x13 (ix3 b l j) = lin (two x0 x2 x3 x4 x5 x6 x7 x8 x9 x10 x11 x12 s b) (mat x13) l j := by
  exact (val_main_v32_apply x0 x1 x2 x3 x4 x5 x6 x7 x8 x9 x10 x11 x12 x13 _).trans (Finset.sum_congr rfl fun k _ =>
    congrArg₂ (· * ·) ((congrArg _ (eq_ix3 _)).trans (two_at x0 x2 x3 x4 x5 x6 x7 x8 x9 x10 x11 x12 hs b l k)) (congrArg x13 (eq_ix2 _)))

/-- The bias spread over rows and nodes. -/
theorem proc_bias (b : Fin 16) (l : Fin 4096) (j : Fin 16) :
    val_main_v34 (F := Ideal) x14 (ix3 b l j) = vec x14 j := by
  exact (val_main_v34_apply (F := Ideal) x14 _).trans ((val_main_v33_apply (F := Ideal) x14 _).trans (congrArg x14 (eq_ix1 _)))

/-- The processed rows. -/
theorem three_at (hs : Codes x1 s) (b : Fin 16) (l : Fin 4096) (j : Fin 16) :
    val_main_v36 (F := Ideal) x0 x1 x2 x3 x4 x5 x6 x7 x8 x9 x10 x11 x12 x13 x14 (ix3 b l j) = three x0 x2 x3 x4 x5 x6 x7 x8 x9 x10 x11 x12 x13 x14 s b l j := by
  rw [val_main_v36_apply, val_main_v35_apply, proc_dot x0 x2 x3 x4 x5 x6 x7 x8 x9 x10 x11 x12 x13 hs b l j, proc_bias x14 b l j]
  rfl

/-- The convolution's tap 0. -/
theorem tap0_at (hs : Codes x1 s) (b : Fin 16) (c : Fin 32) (l : Fin 4094) :
    val_main_v41 (F := Ideal) x0 x1 x2 x3 x4 x5 x6 x7 x8 x9 x10 x11 x12 x13 x14 x15 (ix3 b c l) = tap (three x0 x2 x3 x4 x5 x6 x7 x8 x9 x10 x11 x12 x13 x14 s b) (fun j k t => x15 (ix3 j k t)) c l 0 := by
  have hl := l.isLt
  have hi : idx_main_v41 (ix3 b c l) = ix3 c b l := eq_ix3 _
  rw [val_main_v41_apply, hi, val_main_v40_apply]
  refine Finset.sum_congr rfl fun k _ => ?_
  have hc := c.isLt
  have hk := k.isLt
  have hw : val_main_v39 (F := Ideal) x15 (lidx_main_v40 (ix3 c b l) k) = x15 (ix3 c k 0) := by
    rw [val_main_v39_apply, val_main_v38_apply]
    refine congrArg x15 (funext fun a => Fin.ext ?_)
    match a with
    | ⟨0, _⟩ => show (c.val * 16 + k.val) / 16 = c.val; omega
    | ⟨1, _⟩ => show (c.val * 16 + k.val) / 1 % 16 = k.val; omega
    | ⟨2, _⟩ => rfl
  have hx : val_main_v37 (F := Ideal) x0 x1 x2 x3 x4 x5 x6 x7 x8 x9 x10 x11 x12 x13 x14 (ridx_main_v40 (ix3 c b l) k)
      = three x0 x2 x3 x4 x5 x6 x7 x8 x9 x10 x11 x12 x13 x14 s b ⟨l.val + 0, by omega⟩ k := by
    rw [val_main_v37_apply]
    refine (congrArg _ (funext fun a => Fin.ext ?_)).trans (three_at x0 x2 x3 x4 x5 x6 x7 x8 x9 x10 x11 x12 x13 x14 hs b ⟨l.val + 0, by omega⟩ k)
    match a with
    | ⟨0, _⟩ => rfl
    | ⟨1, _⟩ => show l.val = l.val + 0; omega
    | ⟨2, _⟩ => rfl
  rw [hw, hx]
  exact mul_comm _ _

/-- The convolution's tap 1. -/
theorem tap1_at (hs : Codes x1 s) (b : Fin 16) (c : Fin 32) (l : Fin 4094) :
    val_main_v48 (F := Ideal) x0 x1 x2 x3 x4 x5 x6 x7 x8 x9 x10 x11 x12 x13 x14 x15 (ix3 b c l) = tap (three x0 x2 x3 x4 x5 x6 x7 x8 x9 x10 x11 x12 x13 x14 s b) (fun j k t => x15 (ix3 j k t)) c l 1 := by
  have hl := l.isLt
  have hi : idx_main_v48 (ix3 b c l) = ix3 c b l := eq_ix3 _
  rw [val_main_v48_apply, hi, val_main_v47_apply]
  refine Finset.sum_congr rfl fun k _ => ?_
  have hc := c.isLt
  have hk := k.isLt
  have hw : val_main_v46 (F := Ideal) x15 (lidx_main_v47 (ix3 c b l) k) = x15 (ix3 c k 1) := by
    rw [val_main_v46_apply, val_main_v45_apply]
    refine congrArg x15 (funext fun a => Fin.ext ?_)
    match a with
    | ⟨0, _⟩ => show (c.val * 16 + k.val) / 16 = c.val; omega
    | ⟨1, _⟩ => show (c.val * 16 + k.val) / 1 % 16 = k.val; omega
    | ⟨2, _⟩ => rfl
  have hx : val_main_v44 (F := Ideal) x0 x1 x2 x3 x4 x5 x6 x7 x8 x9 x10 x11 x12 x13 x14 (ridx_main_v47 (ix3 c b l) k)
      = three x0 x2 x3 x4 x5 x6 x7 x8 x9 x10 x11 x12 x13 x14 s b ⟨l.val + 1, by omega⟩ k := by
    rw [val_main_v44_apply]
    refine (congrArg _ (funext fun a => Fin.ext ?_)).trans (three_at x0 x2 x3 x4 x5 x6 x7 x8 x9 x10 x11 x12 x13 x14 hs b ⟨l.val + 1, by omega⟩ k)
    match a with
    | ⟨0, _⟩ => rfl
    | ⟨1, _⟩ => show 1 + l.val = l.val + 1; omega
    | ⟨2, _⟩ => rfl
  rw [hw, hx]
  exact mul_comm _ _

/-- The convolution's tap 2. -/
theorem tap2_at (hs : Codes x1 s) (b : Fin 16) (c : Fin 32) (l : Fin 4094) :
    val_main_v54 (F := Ideal) x0 x1 x2 x3 x4 x5 x6 x7 x8 x9 x10 x11 x12 x13 x14 x15 (ix3 b c l) = tap (three x0 x2 x3 x4 x5 x6 x7 x8 x9 x10 x11 x12 x13 x14 s b) (fun j k t => x15 (ix3 j k t)) c l 2 := by
  have hl := l.isLt
  have hi : idx_main_v54 (ix3 b c l) = ix3 c b l := eq_ix3 _
  rw [val_main_v54_apply, hi, val_main_v53_apply]
  refine Finset.sum_congr rfl fun k _ => ?_
  have hc := c.isLt
  have hk := k.isLt
  have hw : val_main_v52 (F := Ideal) x15 (lidx_main_v53 (ix3 c b l) k) = x15 (ix3 c k 2) := by
    rw [val_main_v52_apply, val_main_v51_apply]
    refine congrArg x15 (funext fun a => Fin.ext ?_)
    match a with
    | ⟨0, _⟩ => show (c.val * 16 + k.val) / 16 = c.val; omega
    | ⟨1, _⟩ => show (c.val * 16 + k.val) / 1 % 16 = k.val; omega
    | ⟨2, _⟩ => rfl
  have hx : val_main_v50 (F := Ideal) x0 x1 x2 x3 x4 x5 x6 x7 x8 x9 x10 x11 x12 x13 x14 (ridx_main_v53 (ix3 c b l) k)
      = three x0 x2 x3 x4 x5 x6 x7 x8 x9 x10 x11 x12 x13 x14 s b ⟨l.val + 2, by omega⟩ k := by
    rw [val_main_v50_apply]
    refine (congrArg _ (funext fun a => Fin.ext ?_)).trans (three_at x0 x2 x3 x4 x5 x6 x7 x8 x9 x10 x11 x12 x13 x14 hs b ⟨l.val + 2, by omega⟩ k)
    match a with
    | ⟨0, _⟩ => rfl
    | ⟨1, _⟩ => show 2 + l.val = l.val + 2; omega
    | ⟨2, _⟩ => rfl
  rw [hw, hx]
  exact mul_comm _ _

/-- The three taps' sum and the bias. -/
theorem sum_at (hs : Codes x1 s) (b : Fin 16) (c : Fin 32) (l : Fin 4094) :
    val_main_v58 (F := Ideal) x0 x1 x2 x3 x4 x5 x6 x7 x8 x9 x10 x11 x12 x13 x14 x15 x16 (ix3 b c l)
      = tap (three x0 x2 x3 x4 x5 x6 x7 x8 x9 x10 x11 x12 x13 x14 s b) (fun j k t => x15 (ix3 j k t)) c l 0 + tap (three x0 x2 x3 x4 x5 x6 x7 x8 x9 x10 x11 x12 x13 x14 s b) (fun j k t => x15 (ix3 j k t)) c l 1
        + tap (three x0 x2 x3 x4 x5 x6 x7 x8 x9 x10 x11 x12 x13 x14 s b) (fun j k t => x15 (ix3 j k t)) c l 2 + vec x16 c := by
  have hb : val_main_v57 (F := Ideal) x16 (ix3 b c l) = vec x16 c :=
    (val_main_v57_apply (F := Ideal) x16 _).trans ((val_main_v56_apply (F := Ideal) x16 _).trans (congrArg x16 (eq_ix1 _)))
  have hz : val_main_v42 (F := Ideal) (ix3 b c l) = (0 : EReal) := (val_main_v42_apply (F := Ideal) _).trans Ideal.ofBits_zero_f32
  rw [val_main_v58_apply, val_main_v55_apply, val_main_v49_apply, val_main_v43_apply, hb, hz, tap0_at x0 x2 x3 x4 x5 x6 x7 x8 x9 x10 x11 x12 x13 x14 x15 hs b c l,
    tap1_at x0 x2 x3 x4 x5 x6 x7 x8 x9 x10 x11 x12 x13 x14 x15 hs b c l, tap2_at x0 x2 x3 x4 x5 x6 x7 x8 x9 x10 x11 x12 x13 x14 x15 hs b c l]
  exact congrArg (· + _ + _ + _) (zero_add _)

/-- **The reference's result** at `(b, c, l)`. -/
theorem result_at (hs : Codes x1 s) (b : Fin 16) (c : Fin 32) (l : Fin 4094) :
    val_main_v59 (F := Ideal) x0 x1 x2 x3 x4 x5 x6 x7 x8 x9 x10 x11 x12 x13 x14 x15 x16 (ix3 b c l)
      = tail (one x0 x2 x3 x4 x5 x6 x7 s b) (mat x8) (vec x9) (mat x10) (mat x11) (vec x12) (mat x13) (vec x14)
        (fun j k t => x15 (ix3 j k t)) (vec x16) c l := by
  rw [val_main_v59_apply, val_main_call3_v1_apply, val_main_call3_v7_apply, val_main_call3_v5_apply, val_main_call3_v4_apply,
    val_main_call3_v3_apply, val_main_call3_v0_apply, val_main_call3_v2_apply, val_main_call3_v6_apply,
    val_main_call3_call0_v1_apply, val_main_call3_call0_v0_apply, sum_at x0 x2 x3 x4 x5 x6 x7 x8 x9 x10 x11 x12 x13 x14 x15 x16 hs b c l]
  exact elu_eq _

end Cert.ReferenceIdeal.Net

end
-- ==== Proof.Equal.lean ====
/-
  The equation: on inputs the precondition allows, the kernel's network with folded weights and the reference's network give one
  result.
-/
module

public import proofs.«01_k».proof.Proof.Array
public import proofs.«01_k».proof.Proof.Reference

@[expose] public section

noncomputable section

namespace Cert.KernelIdeal.Net

open Cert.KernelIdeal Idealize.ShloMosaic Idealize.ShloMosaic.ValueIdx Cert.Chain

/-- The word of 0 or 1 read as a number. -/
theorem word_number (a : Fin 2) : ((((BitVec.ofNat 32 a.val).toInt : ℝ)) : EReal) = if a = 0 then 0 else 1 := by
  have h : (BitVec.ofNat 32 a.val).toInt = if a = 0 then 0 else 1 := by revert a; decide
  rw [h]
  split <;> simp

/-- **The first layer, folded and plain.** The kernel's first layer for batch row `i` is the reference's: each folded product is
    the plain product with its bias, and the bias is added before the predecessor's part instead of after it. -/
theorem first_eq (a0 : FVec Ideal S16x4096x8 .f32) (a1 : IVec S16x4096 32) (a2 : FVec Ideal S2x2 .f32) (a3 : FVec Ideal S10x10 .f32)
    (a4 : FVec Ideal S10 .f32) (a5 a6 : FVec Ideal S10x128 .f32) (a7 : FVec Ideal S128 .f32) (s : Fin 16 → Fin 4096 → Fin 2)
    (hs : Cert.ReferenceIdeal.Net.Codes a1 s) (he : ∀ i : Fin 2, ∃ r : ℝ, a2 (ix2 0 i) = r)
    (hp8 : ∀ j : Fin 10, ∃ r : ℝ, a3 (ix2 8 j) = r) (hp9 : ∀ j : Fin 10, ∃ r : ℝ, a3 (ix2 9 j) = r)
    (hs8 : ∀ j : Fin 128, ∃ r : ℝ, a5 (ix2 8 j) = r) (hs9 : ∀ j : Fin 128, ∃ r : ℝ, a5 (ix2 9 j) = r) (i : Fin 16) :
    first a0 a1 a2 a3 a4 a5 a6 a7 i = Cert.ReferenceIdeal.Net.one a0 a2 a3 a4 a5 a6 a7 s i := by
  have hst : (fun l : Fin 4096 => ((((a1 (ix2 i l)).toInt : ℝ)) : EReal)) = fun l => if s i l = 0 then 0 else 1 := by
    funext l
    rw [hs i l]
    exact word_number _
  funext l j
  unfold first
  rw [hst, fold _ (s i) _ _ _ he hs8 hs9, fold _ (s i) _ _ _ he hp8 hp9]
  exact add_right_comm _ _ _

/-- **The two results.** The reference's result array is the kernel's network at every index. -/
theorem result_eq (a0 : FVec Ideal S16x4096x8 .f32) (a1 : IVec S16x4096 32) (a2 : FVec Ideal S2x2 .f32) (a3 : FVec Ideal S10x10 .f32)
    (a4 : FVec Ideal S10 .f32) (a5 a6 : FVec Ideal S10x128 .f32) (a7 : FVec Ideal S128 .f32) (a8 : FVec Ideal S128x128 .f32)
    (a9 : FVec Ideal S128 .f32) (a10 a11 : FVec Ideal S128x10 .f32) (a12 : FVec Ideal S10 .f32) (a13 : FVec Ideal S10x16 .f32)
    (a14 : FVec Ideal S16 .f32) (a15 : FVec Ideal S32x16x3 .f32) (a16 : FVec Ideal S32 .f32) (s : Fin 16 → Fin 4096 → Fin 2)
    (hs : Cert.ReferenceIdeal.Net.Codes a1 s) (he : ∀ i : Fin 2, ∃ r : ℝ, a2 (ix2 0 i) = r)
    (hp8 : ∀ j : Fin 10, ∃ r : ℝ, a3 (ix2 8 j) = r) (hp9 : ∀ j : Fin 10, ∃ r : ℝ, a3 (ix2 9 j) = r)
    (hs8 : ∀ j : Fin 128, ∃ r : ℝ, a5 (ix2 8 j) = r) (hs9 : ∀ j : Fin 128, ∃ r : ℝ, a5 (ix2 9 j) = r) :
    Cert.ReferenceIdeal.Read.val_main_v59 (F := Ideal) a0 a1 a2 a3 a4 a5 a6 a7 a8 a9 a10 a11 a12 a13 a14 a15 a16
      = fun y : S16x32x4094.Idx => rest (first a0 a1 a2 a3 a4 a5 a6 a7 (y 0)) a8 a9 a10 a11 a12 a13 a14 a15 a16 (y 1) (y 2) := by
  funext y
  show _ = rest (first a0 a1 a2 a3 a4 a5 a6 a7 (y 0)) a8 a9 a10 a11 a12 a13 a14 a15 a16 (y 1) (y 2)
  rw [first_eq a0 a1 a2 a3 a4 a5 a6 a7 s hs he hp8 hp9 hs8 hs9 (y 0)]
  exact (congrArg _ (eq_ix3 y)).trans
    (Cert.ReferenceIdeal.Net.result_at a0 a2 a3 a4 a5 a6 a7 a8 a9 a10 a11 a12 a13 a14 a15 a16 hs (y 0) (y 1) (y 2))

end Cert.KernelIdeal.Net

end
-- ==== Proof.lean ====
/-
  The proof of `Cert.Claim`: the two programs and the reference run and leave their arguments unchanged; the idealized kernel is the
  kernel's own text; and on inputs the precondition allows, the idealized kernel's result is the reference's at every index.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_binary_states_finite_rows
public import proofs.«01_k».proof.Proof.Input
public import proofs.«01_k».proof.Proof.Equal
public import Idealize.ShloMosaic.Adequacy
public import Idealize.ShloMosaic.Init

@[expose] public section

noncomputable section

namespace Cert.Proof

open Idealize.ShloMosaic Idealize.ShloMosaic.ValueIdx Idealize.SL.Sem

/-- The reference runs, leaves its arguments unchanged and has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- **The algebraic claim.** From memories whose arguments agree and meet the precondition, both programs end with the kernel's
    network in their results. -/
theorem algebraic : Cert.algebraic_KernelIdeal_ReferenceIdeal_pre_binary_states_finite_rows := by
  intro m g m' g' hpre hag
  refine ⟨fun c => Cert.KernelIdeal.Net.answer m c, ?_, ?_⟩
  · exact (θ_run Cert.KernelIdeal.defs _ _).mono (fun r h c => ⟨((h c).1).trans (Cert.KernelIdeal.Net.final m c), (h c).2⟩)
      (Cert.KernelIdeal.Value.run_blocks (F := Ideal) m g)
  · refine (θ_run Cert.ReferenceIdeal.defs _ _).mono (fun r h c => ⟨((h c).1).trans ?_, (h c).2⟩)
      (Cert.ReferenceIdeal.Value.run (F := Ideal) m' g')
    obtain ⟨p1, p2, p3, p4⟩ := hpre c
    obtain ⟨s, hs⟩ := Cert.Pre_binary_states_finite_rows.Net.states _ _ _ _ _ _ _ _ _ _ _ _ _ _ _ _ _ p1
    obtain ⟨e0, e1, e2, e3, e4, e5, e6, e7, e8, e9, e10, e11, e12, e13, e14, e15, e16⟩ := hag c
    refine (Cert.ReferenceIdeal.Read.val_main_v59_eq (StableHlo.launchContents m' c)).trans ?_
    refine Eq.trans ?_ (Cert.KernelIdeal.Net.result_eq _ _ _ _ _ _ _ _ _ _ _ _ _ _ _ _ _ s hs
      (Cert.Pre_binary_states_finite_rows.Net.embedding_row _ _ _ _ _ _ _ _ _ _ _ _ _ _ _ _ _ p2)
      (Cert.Pre_binary_states_finite_rows.Net.pool_rows _ _ _ _ _ _ _ _ _ _ _ _ _ _ _ _ _ p3 0 8 rfl)
      (Cert.Pre_binary_states_finite_rows.Net.pool_rows _ _ _ _ _ _ _ _ _ _ _ _ _ _ _ _ _ p3 1 9 rfl)
      (Cert.Pre_binary_states_finite_rows.Net.self_rows _ _ _ _ _ _ _ _ _ _ _ _ _ _ _ _ _ p4 0 8 rfl)
      (Cert.Pre_binary_states_finite_rows.Net.self_rows _ _ _ _ _ _ _ _ _ _ _ _ _ _ _ _ _ p4 1 9 rfl))
    show Cert.ReferenceIdeal.Read.val_main_v59 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16)) = _
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_binary_states_finite_rows.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
